-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S256x512 : Shape := ⟨2, ![256, 512]⟩
abbrev S2 : Shape := ⟨1, ![2]⟩
abbrev S_ : Shape := ⟨0, ![]⟩
abbrev S1 : Shape := ⟨1, ![1]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S256x512, .f32⟩
  | .local _ .vmem, ⟨3, _⟩ => ⟨S256x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_9 : BitVec 32 := 1#32
  let v13 : BitVec 32 := Scalar.muli v4 c1_i32_9
  let v14 : BitVec 32 := Scalar.addi c0_i32_10 v13
  v14.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_12 : BitVec 32 := 512#32
  let v16 : BitVec 32 := Scalar.muli v2 c512_i32_12
  let c0_i32_17 : BitVec 32 := 0#32
  ![v16.toNat, 0]
def k0_off2 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c512_i32 : BitVec 32 := 512#32
  let v15 : BitVec 32 := Scalar.muli v4 c512_i32
  ![0, v15.toNat]
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_15 : BitVec 32 := 1#32
  let v17 : BitVec 32 := Scalar.muli v4 c1_i32_15
  let v18 : BitVec 32 := Scalar.addi c0_i32_16 v17
  v18.toNat
def k0_off3 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c512_i32_19 : BitVec 32 := 512#32
  let v25 : BitVec 32 := Scalar.muli v7 c512_i32_19
  ![0, v25.toNat]
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_23 : BitVec 32 := 1#32
  let v27 : BitVec 32 := Scalar.muli v7 c1_i32_23
  let v28 : BitVec 32 := Scalar.addi c0_i32_24 v27
  v28.toNat
def k0_off4 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c512_i32_27 : BitVec 32 := 512#32
  let v35 : BitVec 32 := Scalar.muli v9 c512_i32_27
  ![0, v35.toNat]
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_30 : BitVec 32 := 1#32
  let v36 : BitVec 32 := Scalar.muli v4 c1_i32_30
  let v37 : BitVec 32 := Scalar.addi c0_i32_31 v36
  v37.toNat
def k0_off5 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c512_i32_33 : BitVec 32 := 512#32
  let v43 : BitVec 32 := Scalar.muli v9 c512_i32_33
  ![256, v43.toNat]
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_36 : BitVec 32 := 1#32
  let v44 : BitVec 32 := Scalar.muli v7 c1_i32_36
  let v45 : BitVec 32 := Scalar.addi c0_i32_37 v44
  v45.toNat
def k0_off6 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_38 : BitVec 32 := 512#32
  let v51 : BitVec 32 := Scalar.muli v2 c512_i32_38
  let v52 : Index := Scalar.indexCast v51
  ![0, v52.toNat]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_39 : BitVec 32 := 512#32
  let v55 : BitVec 32 := Scalar.muli v2 c512_i32_39
  let v56 : Index := Scalar.indexCast v55
  let c0_40 : Index := 0#32
  ![v56.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c512_i32_47 : BitVec 32 := 512#32
  let v63 : BitVec 32 := Scalar.muli v7 c512_i32_47
  let c0_i32_52 : BitVec 32 := 0#32
  ![v63.toNat, 0]
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_50 : BitVec 32 := 1#32
  let v64 : BitVec 32 := Scalar.muli v4 c1_i32_50
  let v65 : BitVec 32 := Scalar.addi c0_i32_51 v64
  v65.toNat
def k0_off9 (d0 : Dev nD) (c1_i32_0 : BitVec 32) (c256_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c512_i32_59 : BitVec 32 := 512#32
  let v76 : BitVec 32 := Scalar.muli v4 c512_i32_59
  let v77 : BitVec 32 := Scalar.addi v76 c256_i32_60
  let c0_i32_65 : BitVec 32 := 0#32
  ![v77.toNat, 0]
def k0_off9_at (r : Fin 3) : BitVec 32 × BitVec 32 :=
  if r.val < 1 then
    (1#32, 256#32)
  else
    if r.val < 2 then
      (2#32, 0#32)
    else
      (2#32, 256#32)
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_63 : BitVec 32 := 1#32
  let v78 : BitVec 32 := Scalar.muli v7 c1_i32_63
  let v79 : BitVec 32 := Scalar.addi c0_i32_64 v78
  v79.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c512_i32_66 : BitVec 32 := 512#32
  let v85 : BitVec 32 := Scalar.muli v7 c512_i32_66
  let c0_i32_71 : BitVec 32 := 0#32
  ![v85.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c512_i32_74 : BitVec 32 := 512#32
  let v92 : BitVec 32 := Scalar.muli v4 c512_i32_74
  let c0_i32_79 : BitVec 32 := 0#32
  ![v92.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealPieces.lean ====
/-
The pieces of the buffers the all-to-all moves, and what each buffer holds: the ring of devices, the blocks of
the staged operand and of the staged result that a copy reads or fills, and the contents they end with.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.AllToAll

open Cert.KernelIdeal Cert.KernelIdeal.Gen
open Idealize.ShloMosaic Idealize.ShloMosaic.TcCoe

variable {F : FTy → Type} [FloatOps F]

/-! ## The ring of devices -/

set_option backward.proofsInPublic true in
/-- The device after `c` around the ring. -/
def right (c : Dev nD) : Dev nD := ⟨(c.val + 1) % 4, Nat.mod_lt _ (by decide)⟩
set_option backward.proofsInPublic true in
/-- The device before `c` around the ring. -/
def left (c : Dev nD) : Dev nD := ⟨(c.val + 3) % 4, Nat.mod_lt _ (by decide)⟩

/-- One step back undoes one step forward. -/
theorem left_right (c : Dev nD) : left (right c) = c := by revert c; decide
/-- One step forward undoes one step back. -/
theorem right_left (c : Dev nD) : right (left c) = c := by revert c; decide
/-- A device's position is below four. -/
theorem pos_lt (c : Dev nD) : c.val < 4 := c.isLt
/-- The position after `c`'s. -/
theorem right_val (c : Dev nD) : (right c).val = (c.val + 1) % 4 := rfl
/-- The position before `c`'s. -/
theorem left_val (c : Dev nD) : (left c).val = (c.val + 3) % 4 := rfl

/-- One step around the ring, as a permutation of the devices. -/
def turn : Dev nD ≃ Dev nD := ⟨right, left, left_right, right_left⟩

/-! ## The buffers and their pieces -/

/-- The staged operand: this device's rows of `x`. -/
abbrev xM : Memref sig .tc .vmem S512x2048 .f32 := Memref.whole cc0_stg0_0
/-- The staged result: this device's columns of the output. -/
abbrev oM : Memref sig .tc .vmem S2048x512 .f32 := Memref.whole cc0_stg1_0
/-- The relay buffer of what travels rightward. -/
abbrev frM : Memref sig .tc .vmem S256x512 .f32 := Memref.whole cc0_scratch0
/-- The relay buffer of what travels leftward. -/
abbrev flM : Memref sig .tc .vmem S256x512 .f32 := Memref.whole cc0_scratch1

/-- The columns of the operand meant for the right neighbour. -/
abbrev xRight (c : Dev nD) : Memref sig .tc .vmem S512x512 .f32 :=
  xM.slice (Rect.unit (s := S512x2048) (k0_off2 c) S512x512.size (k0_off2_inb c)) (fun _ => rfl)
/-- The columns of the operand meant for the left neighbour. -/
abbrev xLeft (c : Dev nD) : Memref sig .tc .vmem S512x512 .f32 :=
  xM.slice (Rect.unit (s := S512x2048) (k0_off3 c) S512x512.size (k0_off3_inb c)) (fun _ => rfl)
/-- The upper half of the columns meant for the device opposite. -/
abbrev xTop (c : Dev nD) : Memref sig .tc .vmem S256x512 .f32 :=
  xM.slice (Rect.unit (s := S512x2048) (k0_off4 c) S256x512.size (k0_off4_inb c)) (fun _ => rfl)
/-- The lower half of the columns meant for the device opposite. -/
abbrev xBot (c : Dev nD) : Memref sig .tc .vmem S256x512 .f32 :=
  xM.slice (Rect.unit (s := S512x2048) (k0_off5 c) S256x512.size (k0_off5_inb c)) (fun _ => rfl)
/-- The rows of a result that come from device `d`. -/
abbrev oBlk (d : Dev nD) : Memref sig .tc .vmem S512x512 .f32 :=
  oM.slice (Rect.unit (s := S2048x512) (k0_off1 d) S512x512.size (k0_off1_inb d)) (fun _ => rfl)
/-- The upper half of the rows of a result that device `d` relays rightward: those of `d`'s left neighbour. -/
abbrev oTop (d : Dev nD) : Memref sig .tc .vmem S256x512 .f32 :=
  oM.slice (Rect.unit (s := S2048x512) (k0_off8 d) S256x512.size (k0_off8_inb d)) (fun _ => rfl)
/-- The lower half of the rows of a result that device `d` relays leftward: those of `d`'s right neighbour. -/
abbrev oBot (d : Dev nD) : Memref sig .tc .vmem S256x512 .f32 :=
  oM.slice (Rect.unit (s := S2048x512) (k0_off9 d 1#32 256#32) S256x512.size (k0_off9_inb d 0)) (fun _ => rfl)

/-- Where the leftward relay's destination starts. -/
theorem off9_eq : ∀ d : Dev nD, k0_off9 d 1#32 256#32 = ![512 * ((d.val + 1) % 4) + 256, 0] := by decide +kernel

/-- Which elements of a whole buffer a rectangle of unit strides covers. -/
theorem mem_piece (b : Ref sig .tc) (r : Rect b.ty.shape) (i : b.ty.shape.Idx) (hs : ∀ a, r.stride a = 1) :
    i ∈ ((View.whole b).slice r).set ↔ ∀ a, r.off a ≤ i a ∧ (i a : ℕ) < r.off a + r.size a := by
  rw [View.set_slice_whole, LoadRect.mem_set]
  exact forall_congr' fun a => by
    rw [hs a]
    exact ⟨fun ⟨j, hj, e⟩ => by omega, fun ⟨hlo, hhi⟩ => ⟨i a - r.off a, by omega, by omega⟩⟩

/-- A rectangle of the staged operand covers the elements between its first and last row and column. -/
theorem mem_x {off : Fin 2 → ℕ} (size : Fin 2 → ℕ) (inb : ∀ a, off a + size a ≤ S512x2048.size a) {u v : ℕ} (h : off = ![u, v])
    (i : S512x2048.Idx) : i ∈ ((View.whole cc0_stg0_0).slice (Rect.unit (s := S512x2048) off size inb)).set
      ↔ (u ≤ (i 0).val ∧ (i 0).val < u + size 0) ∧ v ≤ (i 1).val ∧ (i 1).val < v + size 1 := by
  subst h
  refine (mem_piece cc0_stg0_0 _ i fun _ => rfl).trans ?_
  exact (Fin.forall_fin_two (p := fun a : Fin 2 => ![u, v] a ≤ (i a).val ∧ (i a).val < ![u, v] a + size a))

/-- A rectangle of the staged result covers the elements between its first and last row and column. -/
theorem mem_o {off : Fin 2 → ℕ} (size : Fin 2 → ℕ) (inb : ∀ a, off a + size a ≤ S2048x512.size a) {u v : ℕ} (h : off = ![u, v])
    (i : S2048x512.Idx) : i ∈ ((View.whole cc0_stg1_0).slice (Rect.unit (s := S2048x512) off size inb)).set
      ↔ (u ≤ (i 0).val ∧ (i 0).val < u + size 0) ∧ v ≤ (i 1).val ∧ (i 1).val < v + size 1 := by
  subst h
  refine (mem_piece cc0_stg1_0 _ i fun _ => rfl).trans ?_
  exact (Fin.forall_fin_two (p := fun a : Fin 2 => ![u, v] a ≤ (i a).val ∧ (i a).val < ![u, v] a + size a))

/-- The operand's columns for the right neighbour. -/
theorem mem_xRight (c : Dev nD) (i : S512x2048.Idx) : i ∈ (xRight c).view.set
    ↔ (0 ≤ (i 0).val ∧ (i 0).val < 0 + 512) ∧ 512 * ((c.val + 1) % 4) ≤ (i 1).val ∧ (i 1).val < 512 * ((c.val + 1) % 4) + 512 :=
  mem_x S512x512.size (k0_off2_inb c) (k0_off2_eq c) i
/-- The operand's columns for the left neighbour. -/
theorem mem_xLeft (c : Dev nD) (i : S512x2048.Idx) : i ∈ (xLeft c).view.set
    ↔ (0 ≤ (i 0).val ∧ (i 0).val < 0 + 512) ∧ 512 * ((c.val + 3) % 4) ≤ (i 1).val ∧ (i 1).val < 512 * ((c.val + 3) % 4) + 512 :=
  mem_x S512x512.size (k0_off3_inb c) (k0_off3_eq c) i
/-- The upper half of the operand's columns for the device opposite. -/
theorem mem_xTop (c : Dev nD) (i : S512x2048.Idx) : i ∈ (xTop c).view.set
    ↔ (0 ≤ (i 0).val ∧ (i 0).val < 0 + 256) ∧ 512 * ((c.val + 2) % 4) ≤ (i 1).val ∧ (i 1).val < 512 * ((c.val + 2) % 4) + 512 :=
  mem_x S256x512.size (k0_off4_inb c) (k0_off4_eq c) i
/-- The lower half of the operand's columns for the device opposite. -/
theorem mem_xBot (c : Dev nD) (i : S512x2048.Idx) : i ∈ (xBot c).view.set
    ↔ (256 ≤ (i 0).val ∧ (i 0).val < 256 + 256) ∧ 512 * ((c.val + 2) % 4) ≤ (i 1).val ∧ (i 1).val < 512 * ((c.val + 2) % 4) + 512 :=
  mem_x S256x512.size (k0_off5_inb c) (k0_off5_eq c) i
/-- The rows of a result that come from device `d`. -/
theorem mem_oBlk (d : Dev nD) (i : S2048x512.Idx) : i ∈ (oBlk d).view.set
    ↔ (512 * d.val ≤ (i 0).val ∧ (i 0).val < 512 * d.val + 512) ∧ 0 ≤ (i 1).val ∧ (i 1).val < 0 + 512 :=
  mem_o S512x512.size (k0_off1_inb d) (k0_off1_eq d) i
/-- The half of a result's rows that device `d` relays rightward. -/
theorem mem_oTop (d : Dev nD) (i : S2048x512.Idx) : i ∈ (oTop d).view.set
    ↔ (512 * ((d.val + 3) % 4) ≤ (i 0).val ∧ (i 0).val < 512 * ((d.val + 3) % 4) + 256) ∧ 0 ≤ (i 1).val ∧ (i 1).val < 0 + 512 :=
  mem_o S256x512.size (k0_off8_inb d) (k0_off8_eq d) i
/-- The half of a result's rows that device `d` relays leftward. -/
theorem mem_oBot (d : Dev nD) (i : S2048x512.Idx) : i ∈ (oBot d).view.set
    ↔ (512 * ((d.val + 1) % 4) + 256 ≤ (i 0).val ∧ (i 0).val < 512 * ((d.val + 1) % 4) + 256 + 256) ∧ 0 ≤ (i 1).val ∧ (i 1).val < 0 + 512 :=
  mem_o S256x512.size (k0_off9_inb d 0) (off9_eq d) i

/-! ## The operand's columns, apart -/

/-- What is left of the operand once the columns for the two neighbours are lent, -/
abbrev xRest₂ (c : Dev nD) : Finset S512x2048.Idx := (Finset.univ \ (xRight c).view.set) \ (xLeft c).view.set
/-- and once those for the device opposite are lent too. -/
abbrev xRest₄ (c : Dev nD) : Finset S512x2048.Idx := (xRest₂ c \ (xTop c).view.set) \ (xBot c).view.set

/-- The left neighbour's columns are not the right neighbour's. -/
theorem xLeft_sub (c : Dev nD) : (xLeft c).view.set ⊆ Finset.univ \ (xRight c).view.set := fun i hi => by
  have hi := (mem_xLeft c i).mp hi
  have hc := pos_lt c
  exact Finset.mem_sdiff.mpr ⟨Finset.mem_univ _, fun h => by have := (mem_xRight c i).mp h; omega⟩
/-- The opposite device's upper half is neither neighbour's. -/
theorem xTop_sub (c : Dev nD) : (xTop c).view.set ⊆ xRest₂ c := fun i hi => by
  have hi := (mem_xTop c i).mp hi
  have hc := pos_lt c
  exact Finset.mem_sdiff.mpr ⟨Finset.mem_sdiff.mpr ⟨Finset.mem_univ _, fun h => by have := (mem_xRight c i).mp h; omega⟩,
    fun h => by have := (mem_xLeft c i).mp h; omega⟩
/-- The opposite device's lower half is none of the three others. -/
theorem xBot_sub (c : Dev nD) : (xBot c).view.set ⊆ xRest₂ c \ (xTop c).view.set := fun i hi => by
  have hi := (mem_xBot c i).mp hi
  have hc := pos_lt c
  exact Finset.mem_sdiff.mpr ⟨Finset.mem_sdiff.mpr ⟨Finset.mem_sdiff.mpr ⟨Finset.mem_univ _, fun h => by have := (mem_xRight c i).mp h; omega⟩,
    fun h => by have := (mem_xLeft c i).mp h; omega⟩, fun h => by have := (mem_xTop c i).mp h; omega⟩
/-- The device's own columns are none of the four pieces lent. -/
theorem xOwn_sub (c : Dev nD) :
    xM.view.setOn (Rect.unit (s := S512x2048) (k0_off6 c) S512x512.size (k0_off6_inb c)).toLoadRect.set ⊆ xRest₄ c := fun i hi => by
  have hi : i ∈ ((View.whole cc0_stg0_0).slice (Rect.unit (s := S512x2048) (k0_off6 c) S512x512.size (k0_off6_inb c))).set := by
    rw [View.set_slice]; exact hi
  have hi := (mem_x S512x512.size (k0_off6_inb c) (k0_off6_eq c) i).mp hi
  have hc := pos_lt c
  have h2 : S512x512.size 1 = 512 := rfl
  exact Finset.mem_sdiff.mpr ⟨Finset.mem_sdiff.mpr ⟨Finset.mem_sdiff.mpr ⟨Finset.mem_sdiff.mpr ⟨Finset.mem_univ _,
    fun h => by have := (mem_xRight c i).mp h; omega⟩, fun h => by have := (mem_xLeft c i).mp h; omega⟩,
    fun h => by have := (mem_xTop c i).mp h; omega⟩, fun h => by have := (mem_xBot c i).mp h; omega⟩

/-! ## The result's rows, apart -/

/-- What is left of device `c`'s result once its left neighbour may write into it, -/
abbrev oRest₂ (c : Dev nD) : Finset S2048x512.Idx := (Finset.univ \ (oBlk (left c)).view.set) \ (oTop (left c)).view.set
/-- and once its right neighbour may too: its own rows. -/
abbrev oRest₄ (c : Dev nD) : Finset S2048x512.Idx := (oRest₂ c \ (oBlk (right c)).view.set) \ (oBot (right c)).view.set

/-- The rows the left neighbour relays are not its own. -/
theorem oTop_sub (c : Dev nD) : (oTop (left c)).view.set ⊆ Finset.univ \ (oBlk (left c)).view.set := fun i hi => by
  have hi := (mem_oTop _ i).mp hi
  have hc := pos_lt c
  rw [left_val] at hi
  exact Finset.mem_sdiff.mpr ⟨Finset.mem_univ _, fun h => by have := (mem_oBlk _ i).mp h; rw [left_val] at this; omega⟩
/-- The right neighbour's own rows are not those the left one writes. -/
theorem oBlk_sub (c : Dev nD) : (oBlk (right c)).view.set ⊆ oRest₂ c := fun i hi => by
  have hi := (mem_oBlk _ i).mp hi
  have hc := pos_lt c
  rw [right_val] at hi
  exact Finset.mem_sdiff.mpr ⟨Finset.mem_sdiff.mpr ⟨Finset.mem_univ _, fun h => by have := (mem_oBlk _ i).mp h; rw [left_val] at this; omega⟩,
    fun h => by have := (mem_oTop _ i).mp h; rw [left_val] at this; omega⟩
/-- The rows the right neighbour relays are none of the three others. -/
theorem oBot_sub (c : Dev nD) : (oBot (right c)).view.set ⊆ oRest₂ c \ (oBlk (right c)).view.set := fun i hi => by
  have hi := (mem_oBot _ i).mp hi
  have hc := pos_lt c
  rw [right_val] at hi
  exact Finset.mem_sdiff.mpr ⟨Finset.mem_sdiff.mpr ⟨Finset.mem_sdiff.mpr ⟨Finset.mem_univ _, fun h => by have := (mem_oBlk _ i).mp h; rw [left_val] at this; omega⟩,
    fun h => by have := (mem_oTop _ i).mp h; rw [left_val] at this; omega⟩, fun h => by have := (mem_oBlk _ i).mp h; rw [right_val] at this; omega⟩
/-- What is left is the device's own rows. -/
theorem mem_oRest₄ (c : Dev nD) (i : S2048x512.Idx) : i ∈ oRest₄ c ↔ 512 * c.val ≤ (i 0).val ∧ (i 0).val < 512 * c.val + 512 := by
  have hc := pos_lt c
  have h0 : (i 0).val < 2048 := (i 0).isLt
  have h1 : (i 1).val < 512 := (i 1).isLt
  constructor
  · intro h
    obtain ⟨h, n₄⟩ := Finset.mem_sdiff.mp h
    obtain ⟨h, n₃⟩ := Finset.mem_sdiff.mp h
    obtain ⟨h, n₂⟩ := Finset.mem_sdiff.mp h
    obtain ⟨-, n₁⟩ := Finset.mem_sdiff.mp h
    have n₁ := mt (mem_oBlk _ i).mpr n₁
    have n₂ := mt (mem_oTop _ i).mpr n₂
    have n₃ := mt (mem_oBlk _ i).mpr n₃
    have n₄ := mt (mem_oBot _ i).mpr n₄
    rw [left_val] at n₁ n₂
    rw [right_val] at n₃ n₄
    omega
  · intro h
    refine Finset.mem_sdiff.mpr ⟨Finset.mem_sdiff.mpr ⟨Finset.mem_sdiff.mpr ⟨Finset.mem_sdiff.mpr ⟨Finset.mem_univ _, fun n => ?_⟩, fun n => ?_⟩,
      fun n => ?_⟩, fun n => ?_⟩
    · have n := (mem_oBlk _ i).mp n; rw [left_val] at n; omega
    · have n := (mem_oTop _ i).mp n; rw [left_val] at n; omega
    · have n := (mem_oBlk _ i).mp n; rw [right_val] at n; omega
    · have n := (mem_oBot _ i).mp n; rw [right_val] at n; omega

/-! ## Contents -/

variable (m : (ℓ : Loc nD τ sig) → Buf (Elt F) ℓ)

/-- The staged operand of device `c`: its rows of `x`. -/
def xin (c : Dev nD) : (cc0_stg0_0 : Ref sig .tc).ty.Contents (Elt F) :=
  (win0_0.blk (0 : Fin 1)).view.read (Elt F) (m ((c : Thread nD τ).loc main_arg0))

/-- A place of the operand, by its row and column (each taken modulo the extent). -/
def xpos (r k : ℕ) : S512x2048.Idx := fun
  | ⟨0, _⟩ => ⟨r % 512, Nat.mod_lt _ (by decide)⟩
  | ⟨1, _⟩ => ⟨k % 2048, Nat.mod_lt _ (by decide)⟩

/-- A place of the operand is the one at its row and column. -/
theorem eq_xpos (i : S512x2048.Idx) (r k : ℕ) (hr : (i 0).val = r) (hk : (i 1).val = k) : i = xpos r k := by
  have h0 : (i 0).val < 512 := (i 0).isLt
  have h1 : (i 1).val < 2048 := (i 1).isLt
  funext a
  match a with
  | ⟨0, _⟩ => exact Fin.ext (show (i 0).val = r % 512 by omega)
  | ⟨1, _⟩ => exact Fin.ext (show (i 1).val = k % 2048 by omega)

/-- The result of device `c`: row `r` of the block that comes from device `d` is row `r` of `d`'s operand, the
    columns those of `c`. -/
def out (c : Dev nD) : (cc0_stg1_0 : Ref sig .tc).ty.Contents (Elt F) := fun i : S2048x512.Idx =>
  xin m ⟨(i 0).val / 512 % 4, Nat.mod_lt _ (by decide)⟩ (xpos ((i 0).val % 512) (512 * c.val + (i 1).val))

/-- The result at a place, by the device its row comes from. -/
theorem out_at (c d : Dev nD) (i : S2048x512.Idx) (j : S512x2048.Idx) (h0 : (i 0).val = 512 * d.val + (j 0).val)
    (h1 : (j 1).val = 512 * c.val + (i 1).val) : xin m d j = out m c i := by
  have hj : (j 0).val < 512 := (j 0).isLt
  have hd := pos_lt d
  unfold out
  have e : (⟨(i 0).val / 512 % 4, Nat.mod_lt _ (by decide)⟩ : Dev nD) = d := Fin.ext (show (i 0).val / 512 % 4 = d.val by omega)
  rw [e, ← eq_xpos j ((i 0).val % 512) (512 * c.val + (i 1).val) (by omega) h1]

/-- What device `c` relays rightward: the upper half of its left neighbour's columns for its right neighbour. -/
def fwdR (c : Dev nD) : (cc0_scratch0 : Ref sig .tc).ty.Contents (Elt F) := fun i : S256x512.Idx =>
  xin m (left c) (xpos (i 0).val (512 * ((c.val + 1) % 4) + (i 1).val))
/-- What device `c` relays leftward: the lower half of its right neighbour's columns for its left neighbour. -/
def fwdL (c : Dev nD) : (cc0_scratch1 : Ref sig .tc).ty.Contents (Elt F) := fun i : S256x512.Idx =>
  xin m (right c) (xpos (256 + (i 0).val) (512 * ((c.val + 3) % 4) + (i 1).val))

/-- Copied contents, on the elements the copy fills: where the source reads as the wanted contents do, the
    destination holds the wanted contents, whatever it held before. -/
theorem landing {s : Shape} {sp sp' : Space} (src : Memref sig .tc sp s .f32) (dst : Memref sig .tc sp' s .f32)
    (fs : src.view.ty.Contents (Elt F)) (fd ft : dst.view.ty.Contents (Elt F))
    (h : ∀ j, src.view.read (Elt F) fs j = dst.view.read (Elt F) ft j) :
    ∀ i ∈ dst.view.set, dst.view.write (Elt F) fd (src.view.read (Elt F) fs) Finset.univ i = ft i := fun i hi => by
  obtain ⟨j, -, rfl⟩ := Finset.mem_map.mp hi
  rw [View.write_emb_of_mem _ _ (Finset.mem_univ j), h j, View.read_apply, cast_cast, cast_eq]

end Cert.KernelIdeal.AllToAll

end
-- ==== Proof.KernelIdealCopies.lean ====
/-
What each copy and the device's own store leave in the buffer they fill: the wanted contents, piece by piece.
-/
module

public import proofs.«01_k».proof.Proof.KernelIdealPieces

@[expose] public section

noncomputable section

namespace Cert.KernelIdeal.AllToAll

open Cert.KernelIdeal Cert.KernelIdeal.Gen
open Idealize.ShloMosaic Idealize.ShloMosaic.TcCoe
open Idealize.ShloMosaic.ValueKit

variable {F : FTy → Type} [FloatOps F]
variable (m : (ℓ : Loc nD τ sig) → Buf (Elt F) ℓ)

/-- A place of a rectangle of the operand whose offsets are known, in the operand. -/
theorem emb_x {off : Fin 2 → ℕ} (size : Fin 2 → ℕ) (inb : ∀ a, off a + size a ≤ S512x2048.size a) {u v : ℕ} (h : off = ![u, v])
    (j : (Rect.unit (s := S512x2048) off size inb).shape.Idx) :
    ((Rect.unit (s := S512x2048) off size inb).emb j 0).val = u + (j 0).val ∧ ((Rect.unit (s := S512x2048) off size inb).emb j 1).val = v + (j 1).val := by
  subst h
  exact ⟨rect_emb_unit_val (s := S512x2048) _ size inb j 0, rect_emb_unit_val (s := S512x2048) _ size inb j 1⟩

/-- A place of a rectangle of the result whose offsets are known, in the result. -/
theorem emb_o {off : Fin 2 → ℕ} (size : Fin 2 → ℕ) (inb : ∀ a, off a + size a ≤ S2048x512.size a) {u v : ℕ} (h : off = ![u, v])
    (j : (Rect.unit (s := S2048x512) off size inb).shape.Idx) :
    ((Rect.unit (s := S2048x512) off size inb).emb j 0).val = u + (j 0).val ∧ ((Rect.unit (s := S2048x512) off size inb).emb j 1).val = v + (j 1).val := by
  subst h
  exact ⟨rect_emb_unit_val (s := S2048x512) _ size inb j 0, rect_emb_unit_val (s := S2048x512) _ size inb j 1⟩

/-- A whole block: the columns of device `d`'s operand meant for device `c` are what `c`'s result wants in `d`'s rows. -/
theorem block_at (c d : Dev nD) {offx offo : Fin 2 → ℕ} (inbx : ∀ a, offx a + S512x512.size a ≤ S512x2048.size a)
    (inbo : ∀ a, offo a + S512x512.size a ≤ S2048x512.size a) (hx : offx = ![0, 512 * c.val]) (ho : offo = ![512 * d.val, 0]) (j : S512x512.Idx) :
    xin m d ((Rect.unit (s := S512x2048) offx S512x512.size inbx).emb j) = out m c ((Rect.unit (s := S2048x512) offo S512x512.size inbo).emb j) := by
  have hx := emb_x S512x512.size inbx hx j
  have ho := emb_o S512x512.size inbo ho j
  exact out_at m c d _ _ (by rw [ho.1, hx.1]; omega) (by rw [ho.2, hx.2]; omega)

/-- The copy to the right neighbour carries what that device's result wants in this device's rows. -/
theorem copy_right (c : Dev nD) (j : S512x512.Idx) :
    (xRight c).view.read (Elt F) (xin m c) j = (oBlk c).view.read (Elt F) (out m (right c)) j :=
  block_at m (right c) c (k0_off2_inb c) (k0_off1_inb c) (k0_off2_eq c) (k0_off1_eq c) j

/-- The copy to the left neighbour carries what that device's result wants in this device's rows. -/
theorem copy_left (c : Dev nD) (j : S512x512.Idx) :
    (xLeft c).view.read (Elt F) (xin m c) j = (oBlk c).view.read (Elt F) (out m (left c)) j :=
  block_at m (left c) c (k0_off3_inb c) (k0_off1_inb c) (k0_off3_eq c) (k0_off1_eq c) j

/-- The first leg of the rightward relay leaves in the right neighbour's relay buffer what it relays. -/
theorem copy_top (c : Dev nD) (j : S256x512.Idx) :
    (xTop c).view.read (Elt F) (xin m c) j = frM.view.read (Elt F) (fwdR m (right c)) j := by
  have hx := emb_x S256x512.size (k0_off4_inb c) (k0_off4_eq c) j
  have hc := pos_lt c
  show xin m c _ = fwdR m (right c) j
  unfold fwdR
  rw [left_right]
  exact congrArg (xin m c) (eq_xpos _ _ _ (by rw [← Nat.zero_add (j 0).val]; exact hx.1) (hx.2.trans (by rw [right_val]; omega)))

/-- The first leg of the leftward relay leaves in the left neighbour's relay buffer what it relays. -/
theorem copy_bot (c : Dev nD) (j : S256x512.Idx) :
    (xBot c).view.read (Elt F) (xin m c) j = flM.view.read (Elt F) (fwdL m (left c)) j := by
  have hx := emb_x S256x512.size (k0_off5_inb c) (k0_off5_eq c) j
  have hc := pos_lt c
  show xin m c _ = fwdL m (left c) j
  unfold fwdL
  rw [right_left]
  exact congrArg (xin m c) (eq_xpos _ _ _ hx.1 (hx.2.trans (by rw [left_val]; omega)))

/-- The second leg of the rightward relay carries the upper half of the rows the right neighbour's result wants
    from the device opposite it. -/
theorem relay_right (c : Dev nD) (j : S256x512.Idx) :
    frM.view.read (Elt F) (fwdR m c) j = (oTop c).view.read (Elt F) (out m (right c)) j := by
  have ho := emb_o S256x512.size (k0_off8_inb c) (k0_off8_eq c) j
  have hc := pos_lt c
  have hj : (j 0).val < 256 := (j 0).isLt
  have hk : (j 1).val < 512 := (j 1).isLt
  show fwdR m c j = out m (right c) _
  unfold fwdR
  refine out_at m (right c) (left c) _ _ (ho.1.trans ?_) (Eq.trans ?_ (congrArg (512 * (right c).val + ·) ho.2.symm))
  · show _ = 512 * (left c).val + (j 0).val % 512
    rw [left_val]; omega
  · show (512 * ((c.val + 1) % 4) + (j 1).val) % 2048 = _
    rw [right_val]; omega

/-- The second leg of the leftward relay carries the lower half of the rows the left neighbour's result wants from
    the device opposite it. -/
theorem relay_left (c : Dev nD) (j : S256x512.Idx) :
    flM.view.read (Elt F) (fwdL m c) j = (oBot c).view.read (Elt F) (out m (left c)) j := by
  have ho := emb_o S256x512.size (k0_off9_inb c 0) (off9_eq c) j
  have hc := pos_lt c
  have hj : (j 0).val < 256 := (j 0).isLt
  have hk : (j 1).val < 512 := (j 1).isLt
  show fwdL m c j = out m (left c) _
  unfold fwdL
  refine out_at m (left c) (right c) _ _ (ho.1.trans ?_) (Eq.trans ?_ (congrArg (512 * (left c).val + ·) ho.2.symm))
  · show _ = 512 * (right c).val + (256 + (j 0).val) % 512
    rw [right_val]; omega
  · show (512 * ((c.val + 3) % 4) + (j 1).val) % 2048 = _
    rw [left_val]; omega

/-- The columns a device keeps, as its load reads them. -/
abbrev ownCols (c : Dev nD) : Rect S512x2048 := Rect.unit (s := S512x2048) (k0_off6 c) S512x512.size (k0_off6_inb c)
/-- The rows a device fills itself, as its store writes them. -/
abbrev ownRows (c : Dev nD) : Rect S2048x512 := Rect.unit (s := S2048x512) (k0_off7 c) S512x512.size (k0_off7_inb c)

/-- The device's own store touches its own rows only. -/
theorem ownRows_sub (c : Dev nD) : ((View.whole cc0_stg1_0).slice (ownRows c)).set ⊆ oRest₄ c := fun i hi => by
  have hi := (mem_o S512x512.size (k0_off7_inb c) (k0_off7_eq c) i).mp hi
  have h2 : S512x512.size 0 = 512 := rfl
  exact (mem_oRest₄ c i).mpr (by omega)

/-- On its own rows the device's store leaves what its result wants there, whatever they held before. -/
theorem own_store (c : Dev nD) (f : (cc0_stg1_0 : Ref sig .tc).ty.Contents (Elt F)) :
    ∀ i ∈ oRest₄ c, (oM.access (ownRows c)).write (Elt F) f
      (k0_pay1 (xM.view.readAt (Elt F) (ownCols c).toLoadRect (xin m c))) Finset.univ i = out m c i := fun i hi => by
  have hm : i ∈ (oM.access (ownRows c)).set := by
    refine (mem_o S512x512.size (k0_off7_inb c) (k0_off7_eq c) i).mpr ?_
    have hi := (mem_oRest₄ c i).mp hi
    have h2 : S512x512.size 0 = 512 := rfl
    have h3 : S512x512.size 1 = 512 := rfl
    have h1 : (i 1).val < 512 := (i 1).isLt
    omega
  obtain ⟨j, -, rfl⟩ := Finset.mem_map.mp hm
  rw [View.write_emb_of_mem _ _ (Finset.mem_univ j)]
  have e : k0_pay1 (xM.view.readAt (Elt F) (ownCols c).toLoadRect (xin m c)) = xM.view.readAt (Elt F) (ownCols c).toLoadRect (xin m c) := by
    unfold k0_pay1; exact shapeCast_self _ _
  rw [e]
  exact block_at m c c (k0_off6_inb c) (k0_off7_inb c) (k0_off6_eq c) (k0_off7_eq c) j

end Cert.KernelIdeal.AllToAll

end
-- ==== Proof.KernelIdealProtocol.lean ====
/-
The protocol of the all-to-all: the thirteen semaphores of a device, what each contribution to one of them hands
over, who owes which contribution, and the order in which a device may wait.
-/
module

public import proofs.«01_k».proof.Proof.KernelIdealCopies

@[expose] public section

noncomputable section

namespace Cert.KernelIdeal.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging library's part and this protocol's -/

/-- The protocol's own ghost state: rounds of contributions, named by a truth value. -/
abbrev UX : Type := URounds (GSem nD τ sig) Bool
/-- The staging library's ghost state beside it. -/
abbrev UG : Type := UR sig nD τ × UX

local notation "𝕄" => MT nD τ sig Unit (Elt F) ℕ UG ℕ

/-- Where the staging library's ghost state sits. -/
abbrev EP : Emb (UR sig nD τ) (MT nD τ sig Unit (Elt F) ℕ UG ℕ) := embL
/-- Where the protocol's ghost state sits. -/
abbrev EX : Emb UX (MT nD τ sig Unit (Elt F) ℕ UG ℕ) := embR

/-! ## The semaphores -/

/-- The barrier semaphore the neighbours shake hands on. -/
abbrev barS : Sem sig := (SemArray.scalar (sig.barrier 0 rfl) : Sems sig S_).sem

/-- A device's semaphores: the barrier; sent right, sent left; come from the left, come from the right; the relays'
    first legs sent right and left, come from the left and from the right; their second legs likewise. -/
abbrev csem : Fin 13 → SemLoc sig := fun k => if k = 0 then .reg barS else .dma ⟨k.val + 1, Nat.succ_lt_succ k.isLt⟩
/-- A semaphore of a device. -/
abbrev cell (c : Dev nD) (k : Fin 13) : GSem nD τ sig := ((c : Thread nD τ), csem k)
/-- Which of the thirteen a semaphore is. -/
def ix : SemLoc sig → Fin 13 := fun
  | .reg _ => 0
  | .dma q => ⟨(q.val - 1) % 13, Nat.mod_lt _ (by decide)⟩

/-- Each of the thirteen is recognised. -/
theorem ix_csem : ∀ k : Fin 13, ix (csem k) = k := by decide
/-- The thirteen are distinct. -/
theorem csem_inj : Function.Injective csem := fun a b h => by rw [← ix_csem a, ← ix_csem b, h]

/-- What a copy of a whole block adds to its semaphores. -/
abbrev NB : ℕ := (oBlk (0 : Dev nD)).view.dmaCredit
/-- What a copy of half a block adds to its semaphores. -/
abbrev NS : ℕ := frM.view.dmaCredit
/-- A block's amount is positive. -/
theorem NB_pos : 0 < NB := View.dmaCredit_pos _ (by decide)
/-- Half a block's amount is positive. -/
theorem NS_pos : 0 < NS := View.dmaCredit_pos _ (by decide)

/-- What one contribution adds to a semaphore. -/
def amt (k : Fin 13) : ℕ := if k = 0 then 1 else if k.val < 5 then NB else NS
/-- Every contribution adds something. -/
theorem amt_pos (k : Fin 13) : 0 < amt k := by
  unfold amt
  split
  · exact Nat.one_pos
  · split
    · exact NB_pos
    · exact NS_pos

variable (m : (ℓ : Loc nD τ sig) → Buf (Elt F) ℓ)

/-! ## What a contribution hands over -/

/-- The elements of a buffer under a view, on device `c`, at contents `f`. -/
abbrev held {s : Shape} (c : Dev nD) (v : Memref sig .tc .vmem s .f32) (f : Buf (Elt F) (v.view.loc (c : Thread nD τ))) : sProp 𝕄 :=
  v.view.loc (c : Thread nD τ) ↦[v.view.set]{fullShare} f

/-- The elements of a buffer under a view, on device `c`, whatever they hold. -/
def spare {s : Shape} (c : Dev nD) (v : Memref sig .tc .vmem s .f32) : sProp 𝕄 := iprop(∃ f, held c v f)
/-- Such elements can be kept with a semaphore. -/
instance spare_storable {s : Shape} (c : Dev nD) (v : Memref sig .tc .vmem s .f32) : BI.Storable (upEmb : UEmb _ 𝕄) (spare (F := F) c v) := by
  unfold spare; infer_instance

/-- What the left neighbour's signal hands device `c`: the places `c` may write there — the relay buffer of what
    travels left, `c`'s rows of the result, and the half of the rows `c` relays left. -/
def fromLeft (c : Dev nD) : sProp 𝕄 :=
  iprop(spare (left c) flM ∗ spare (left c) (oBlk c) ∗ spare (left c) (oBot c))
/-- What the right neighbour's signal hands device `c`: the places `c` may write there. -/
def fromRight (c : Dev nD) : sProp 𝕄 :=
  iprop(spare (right c) frM ∗ spare (right c) (oBlk c) ∗ spare (right c) (oTop c))

/-- What a contribution to device `c`'s semaphore `k` hands `c`. -/
def pay (c : Dev nD) (k : Fin 13) (d : Bool) : sProp 𝕄 :=
  match k with
  | 0 => if d then fromRight c else fromLeft c
  | 1 => held c (xRight c) (xin m c)
  | 2 => held c (xLeft c) (xin m c)
  | 3 => held c (oBlk (left c)) (out m c)
  | 4 => held c (oBlk (right c)) (out m c)
  | 5 => held c (xTop c) (xin m c)
  | 6 => held c (xBot c) (xin m c)
  | 7 => held c frM (fwdR m c)
  | 8 => held c flM (fwdL m c)
  | 9 => held c frM (fwdR m c)
  | 10 => held c flM (fwdL m c)
  | 11 => held c (oTop (left c)) (out m c)
  | 12 => held c (oBot (right c)) (out m c)

/-- What the left neighbour grants can be kept with a semaphore. -/
instance fromLeft_storable (c : Dev nD) : BI.Storable (upEmb : UEmb _ 𝕄) (fromLeft (F := F) c) := by unfold fromLeft; infer_instance
/-- What the right neighbour grants can be kept with a semaphore. -/
instance fromRight_storable (c : Dev nD) : BI.Storable (upEmb : UEmb _ 𝕄) (fromRight (F := F) c) := by unfold fromRight; infer_instance
/-- What is handed over can be kept with a semaphore. -/
instance pay_storable (c : Dev nD) (k : Fin 13) (d : Bool) : BI.Storable (upEmb : UEmb _ 𝕄) (pay (F := F) m c k d) := by
  unfold pay
  split
  · split <;> infer_instance
  all_goals infer_instance

/-- The contributions a semaphore awaits: two for a barrier, one for any other. -/
def dues (k : Fin 13) : Finset Bool := if k = 0 then Finset.univ else {false}

/-- The schedule: one round, every semaphore's contributions, each with its amount and what it hands over. -/
def plan : Rounds.Schedule (GSem nD τ sig) Bool 𝕄 where
  duties g r := if r = 0 ∧ g.1.2 = .tc ∧ csem (ix g.2) = g.2 then dues (ix g.2) else ∅
  unitless _ := False
  amount g _ _ := amt (ix g.2)
  payload g _ d := pay m g.1.1 (ix g.2) d
  amount_pos g _ _ _ := amt_pos (ix g.2)

/-- The schedule's contributions can be kept with their semaphores. -/
instance plan_payload_storable (g : GSem nD τ sig) (r : ℕ) (d : Bool) : BI.Storable (upEmb : UEmb _ 𝕄) ((plan (F := F) m).payload g r d) :=
  pay_storable m g.1.1 (ix g.2) d

/-- The contributions a device's semaphore awaits. -/
theorem plan_duties (c : Dev nD) (k : Fin 13) : (plan (F := F) m).duties (cell c k) 0 = dues k := by
  dsimp only [plan]
  rw [if_pos ⟨rfl, rfl, by rw [ix_csem]⟩, ix_csem]
/-- Nothing is due after the first round. -/
theorem plan_later (g : GSem nD τ sig) : ∀ r, 1 ≤ r → (plan (F := F) m).duties g r = ∅ :=
  fun r hr => by dsimp only [plan]; rw [if_neg fun h => by omega]
/-- The amount of a contribution to a device's semaphore. -/
theorem plan_amount (c : Dev nD) (k : Fin 13) (d : Bool) : (plan (F := F) m).amount (cell c k) 0 d = amt k := by
  dsimp only [plan]; rw [ix_csem]
/-- What a contribution to a device's semaphore hands over. -/
theorem plan_payload (c : Dev nD) (k : Fin 13) (d : Bool) : (plan (F := F) m).payload (cell c k) 0 d = pay m c k d := by
  dsimp only [plan]; rw [ix_csem]
/-- Every semaphore awaits the contribution named false. -/
theorem false_mem_dues (k : Fin 13) : false ∈ dues k := by
  unfold dues; split
  · exact Finset.mem_univ _
  · exact Finset.mem_singleton_self _
/-- A semaphore other than the barrier awaits the one contribution. -/
theorem dues_one {k : Fin 13} (hk : k ≠ 0) : dues k = {false} := if_neg hk
/-- What a semaphore other than the barrier expects in all. -/
theorem plan_expect (c : Dev nD) {k : Fin 13} (hk : k ≠ 0) : (plan (F := F) m).expect (cell c k) 0 = amt k := by
  unfold Schedule.expect Schedule.amountOf
  rw [plan_duties, dues_one hk, Finset.sum_singleton, plan_amount]
/-- What the barrier expects in all: a unit from each neighbour. -/
theorem plan_expect_bar (c : Dev nD) : (plan (F := F) m).expect (cell c 0) 0 = 2 := by
  unfold Schedule.expect Schedule.amountOf
  rw [plan_duties, Finset.sum_congr rfl fun d _ => plan_amount m c 0 d, Finset.sum_const]; rfl
/-- What a semaphore other than the barrier hands over in all. -/
theorem plan_rest (c : Dev nD) {k : Fin 13} (hk : k ≠ 0) :
    bigSep ((plan (F := F) m).duties (cell c k) 0 \ ∅) (fun d => (plan (F := F) m).payload (cell c k) 0 d) = pay m c k false := by
  rw [Finset.sdiff_empty, plan_duties, dues_one hk, bigSep_singleton, plan_payload]
/-- What the barrier hands over in all: what both neighbours grant. -/
theorem plan_rest_bar (c : Dev nD) :
    bigSep ((plan (F := F) m).duties (cell c 0) 0 \ ∅) (fun d => (plan (F := F) m).payload (cell c 0) 0 d) = iprop(fromLeft c ∗ fromRight c) := by
  rw [Finset.sdiff_empty, plan_duties, show dues 0 = Finset.univ from rfl, bigSep_univ_eq_bigSepL [false, true] (by decide) (by decide),
    bigSepL_cons_cons, bigSepL_singleton, plan_payload, plan_payload]
  rfl

/-! ## What a device owes, and in which order it may wait -/

/-- The semaphore a device's contribution goes to, counted from its last contribution to a neighbour: the second
    legs of the relays, their first legs, the whole blocks, the two signals; then those to its own semaphores, when
    what it sends has left. -/
def toCell : ℕ → Fin 13 := fun
  | 0 => 12 | 1 => 11 | 2 => 8 | 3 => 7 | 4 => 4 | 5 => 3 | 6 => 0 | 7 => 0
  | 8 => 10 | 9 => 9 | 10 => 6 | 11 => 5 | 12 => 2 | _ => 1
/-- The contribution's name at its semaphore: true for the signal to the left neighbour only. -/
def toDue (i : ℕ) : Bool := i == 7
/-- Whether a contribution to a neighbour goes to the left one. -/
def toLeft : ℕ → Bool := fun
  | 0 => true | 1 => false | 2 => true | 3 => false | 4 => true | 5 => false | 6 => false | _ => true
/-- The device a contribution goes to, as a turn of the ring. -/
def way (i : ℕ) : Dev nD ≃ Dev nD := if 7 < i then Equiv.refl _ else if toLeft i then turn.symm else turn
/-- A contribution is awaited where it goes. -/
theorem toDue_mem (i : ℕ) : toDue i ∈ dues (toCell i) := by
  by_cases h : i = 7
  · subst h; exact Finset.mem_univ _
  · rw [show toDue i = false from beq_eq_false_iff_ne.mpr h]; exact false_mem_dues _

/-- What device `c` owes when `n` of its contributions are still to be made. -/
def owe (c : Dev nD) (n : ℕ) : CellTallies nD τ sig Unit :=
  ∑ i ∈ Finset.range n, tallyAt (cell (way i c) (toCell i)) () (amt (toCell i))

/-- Making a contribution takes it off what is owed. -/
theorem owe_succ (c : Dev nD) (n : ℕ) : owe c (n + 1) = owe c n + tallyAt (cell (way n c) (toCell n)) () (amt (toCell n)) :=
  Finset.sum_range_succ _ _
/-- With no contribution left nothing is owed. -/
theorem owe_zero (c : Dev nD) : owe c 0 = 0 := Finset.sum_range_zero _

/-- What is owed at one semaphore. -/
theorem owe_apply (c : Dev nD) (n : ℕ) (g : GSem nD τ sig) (u : Unit) :
    owe c n g u = ∑ i ∈ Finset.range n, if g = cell (way i c) (toCell i) then amt (toCell i) else 0 := by
  unfold owe
  rw [Finset.sum_apply, Finsupp.finset_sum_apply]
  exact Finset.sum_congr rfl fun i _ => by
    rw [tallyAt_apply]
    by_cases h : g = cell (way i c) (toCell i)
    · rw [if_pos ⟨h, rfl⟩, if_pos h]
    · rw [if_neg (fun h' => h h'.1), if_neg h]

/-- What is owed is owed to a neighbour's semaphore. -/
theorem owe_pos {c : Dev nD} {n : ℕ} {g : GSem nD τ sig} {u : Unit} (h : 0 < owe c n g u) :
    ∃ i < n, g = cell (way i c) (toCell i) := by
  rw [owe_apply] at h
  by_contra hn
  refine Nat.lt_irrefl 0 (lt_of_lt_of_eq h (Finset.sum_eq_zero fun i hi => if_neg fun e => hn ⟨i, Finset.mem_range.mp hi, e⟩))

/-- The index a semaphore's tallies are kept at. -/
def L (g : GSem nD τ sig) : Finset Unit := if g.1.2 = .tc then {()} else ∅
/-- The order of waiting: the staging and the senders' semaphores first, then the barrier, then what comes straight
    from a neighbour, last what was relayed. -/
def rank : SemLoc sig → ℕ := fun
  | .reg _ => 1
  | .dma q => if q.val = 4 ∨ q.val = 5 ∨ q.val = 8 ∨ q.val = 9 then 2 else if q.val = 12 ∨ q.val = 13 then 3 else 0
/-- The rank of a device's semaphore. -/
def lv (g : GSem nD τ sig) (_ : Unit) : ℕ := rank g.2

/-- No tallies off the TensorCores. -/
theorem L_of_ne (g : GSem nD τ sig) (h : g.1.2 ≠ .tc) : L g = ∅ := if_neg h
/-- A TensorCore's tallies. -/
theorem L_tc (c : Dev nD) (sm : SemLoc sig) : L ((c : Thread nD τ), sm) = {()} := if_pos rfl

/-- A device may wait on a semaphore ranked below everything it still owes. -/
theorem mayWait (c : Dev nD) (sm : SemLoc sig) (n cut : ℕ) (hsm : rank sm ≤ cut) (h : ∀ i < n, cut < rank (csem (toCell i))) :
    (levAts L lv : sProp 𝕄) ⊢ MayWait (c : Thread nD τ) sm () (owe c n) :=
  MayOwe.of_cut (L := L) (lev := lv) cut (fun p hp => by rw [Finset.mem_singleton.mp hp, L_tc]; exact Finset.mem_singleton_self _)
    (fun g u hg => by obtain ⟨i, -, rfl⟩ := owe_pos hg; rw [L_tc]; exact Finset.mem_singleton_self _)
    (fun p hp => by rw [Finset.mem_singleton.mp hp]; exact hsm)
    (fun g u hg => by obtain ⟨i, hi, rfl⟩ := owe_pos hg; exact h i hi)

end Cert.KernelIdeal.AllToAll

end
-- ==== Proof.KernelIdealSteps.lean ====
/-
One step of the all-to-all each, for any of its semaphores: a signal to a neighbour, a copy to a neighbour, the wait
for a copy, and the wait at the barrier.
-/
module

public import proofs.«01_k».proof.Proof.KernelIdealProtocol

@[expose] public section

noncomputable section

namespace Cert.KernelIdeal.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ) (K : Dev nD × Fin 13 → ℕ)

/-- The kernels run without variants. -/
abbrev 𝒱₀ : Variants := Variants.none

/-- What everyone knows of one semaphore: its invariant, and that its round has begun. -/
abbrev mark (p : Dev nD × Fin 13) : sProp 𝕄 := iprop(cellInv EX (plan m) (K p) (cell p.1 p.2) ∗ reached EX (cell p.1 p.2) 0)
/-- What everyone knows of all the semaphores. -/
def marks : sProp 𝕄 := bigSep Finset.univ (mark m K)
/-- That knowledge can be repeated. -/
instance marks_persistent : Persistent (marks (F := F) m K) := by unfold marks; infer_instance
/-- The knowledge of one semaphore. -/
theorem marks_at (c : Dev nD) (k : Fin 13) : marks (F := F) m K ⊢ mark m K (c, k) := bigSep_elim (Finset.mem_univ (c, k))

/-- What a device owes, whichever waits it has behind it. -/
def owing (c : Dev nD) (n : ℕ) : sProp 𝕄 := iprop(∃ W, owes (c : Thread nD τ) (owe c n) W)
/-- The right to make a device's contribution number `i`. -/
abbrev turnTok (c : Dev nD) (i : ℕ) : sProp 𝕄 := dutyTok EX (cell (way i c) (toCell i)) 0 (toDue i)

/-- A signal: contribution `i`, a unit on a neighbour's barrier, with what it grants that neighbour. -/
theorem wp_tell (c n : Dev nD) (i : ℕ) (hi : toCell i = 0) (hn : n = way i c)
    {α : Type} {Q : α → sProp 𝕄} {k : PUnit → Prog (TpuEff nD τ sig (Elt F) Λ₀ .tc) α} {amount : ℕ} (ha : amount = 1) :
    iprop(marks m K ∗ owing c (i + 1) ∗ turnTok c i ∗ pay m (way i c) 0 (toDue i))
      ⊢ iprop((owing c i -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS amount) k) Q) := by
  subst hn ha
  unfold owing turnTok
  have hd := toDue_mem i
  rw [hi] at hd ⊢
  iintro ⟨#HM, ⟨%W, HO⟩, Ht, Hp⟩ Hk
  ihave ⟨#HI, #HR⟩ := (marks_at m K (way i c) 0) $$ HM
  iapply (Rounds.wp_signal 𝒱₀ EX (plan m) (c : Thread nD τ) none (dst := (way i c : Thread nD τ)) (sem := barS) (κ := K (way i c, 0))
      (r := 0) (d := toDue i) (k' := 1) (by rw [← plan_duties m (way i c) 0] at hd; exact hd) (plan_amount m (way i c) 0 (toDue i)) ()
      (O₀ := owe c (i + 1)) (owe c i) (by rw [owe_succ, hi]; rfl)) $$ [HO Ht Hp]
  · isplitr; · iexact HI
    isplitl [HO]; · iexact HO
    isplitl [Ht]; · iexact Ht
    isplitl [Hp]; ·
      iapply (Entails.of_eq (show pay m (way i c) 0 (toDue i) = (plan m).payload ((way i c : Thread nD τ), .reg barS) 0 (toDue i)
        from (plan_payload m (way i c) 0 (toDue i)).symm))
      iexact Hp
    iexact HR
  iintro HO
  iapply Hk
  iexists W; iexact HO

/-- A copy to a neighbour: contribution `i`, and `j` to the device's own semaphore once the source may be used again.
    Where the source reads as the wanted contents do, the neighbour gets its piece at the wanted contents. -/
theorem wp_copy (c n : Dev nD) (i j : ℕ) (x y : Fin 13) (d : Dev nD) (q₁ q₂ : DmaSem sig) (hd : way i c = d)
    (hx : toCell j = x) (hy : toCell i = y) (hj : way j = Equiv.refl _) (hdj : toDue j = false) (hdi : toDue i = false)
    (hq₁ : csem x = .dma q₁) (hq₂ : csem y = .dma q₂) (hn : n = d) {s : Shape}
    {src dst : Memref sig .tc .vmem s .f32} {hsc : (dst : Memref sig (Dev.tc n : Thread nD τ).2.kind .vmem s .f32).view.ref.isScScratch = false}
    {hsrc : src.view.WordExact} {hdst : dst.view.WordExact}
    {hsem : DmaTarget.Typed .vmem (.dma q₂) (.remote (Dev.tc n : Thread nD τ) dst (.dma q₁) hsc)}
    {fs : Buf (Elt F) (src.view.loc (c : Thread nD τ))} {ft : Buf (Elt F) (dst.view.loc (d : Thread nD τ))}
    (hp₁ : pay m c x false = held c src fs) (hp₂ : pay m d y false = held d dst ft)
    (hN₁ : amt x = dst.view.dmaCredit) (hN₂ : amt y = dst.view.dmaCredit)
    (hl : ∀ p, src.view.read (Elt F) fs p = dst.view.read (Elt F) ft p)
    {α : Type} {Q : α → sProp 𝕄} {k : PUnit → Prog (TpuEff nD τ sig (Elt F) Λ₀ .tc) α} :
    iprop(marks m K ∗ held c src fs ∗ spare d dst ∗ owing c (i + 1) ∗ turnTok c j ∗ turnTok c i)
      ⊢ iprop(((cred (tallyAt (cell c x) () (amt x)) ∗ owing c i)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) k) Q) := by
  subst hn hd hx hy
  unfold owing spare turnTok
  rw [hj, hdj, hdi, Equiv.refl_apply]
  iintro ⟨#HM, Hs, ⟨%fd, Hd⟩, ⟨%W, HO⟩, Htj, Hti⟩ Hk
  ihave ⟨#HI, #HR⟩ := (marks_at m K (way i c) (toCell i)) $$ HM
  ihave ⟨#HJ, #HS⟩ := (marks_at m K c (toCell j)) $$ HM
  have h₁ : ((c : Thread nD τ), SemLoc.dma q₁) = cell c (toCell j) := by rw [← hq₁]
  have h₂ : ((way i c : Thread nD τ), SemLoc.dma q₂) = cell (way i c) (toCell i) := by rw [← hq₂]
  iapply (Rounds.wp_send_pointsTo 𝒱₀ EX (plan m) (c : Thread nD τ) none (c' := (way i c : Thread nD τ)) (κ₁ := K (c, toCell j)) (κ₂ := K (way i c, toCell i))
      (r₁ := 0) (r₂ := 0) (d₁ := false) (d₂ := false) (fs := fs) (fd := fd)
      (by rw [h₁, plan_duties]; exact false_mem_dues _) (by rw [h₂, plan_duties]; exact false_mem_dues _)
      (sS := .dma q₁) (sem := .dma q₂) () () (amt (toCell j)) hN₁.symm (by rw [h₁, plan_amount]) (by rw [h₂, plan_amount, hN₁, hN₂])
      (O₀ := owe c (i + 1)) (owe c i) (by rw [owe_succ, h₂, hN₁, hN₂]) (W := W)
      (by rw [h₁, plan_payload, hp₁])
      (by rw [h₂, plan_payload, hp₂]; exact Entails.of_eq (pointsTo_congr (landing src dst fs fd ft hl)))) $$ [Hs Hd HO Htj Hti]
  · rw [h₁, h₂]
    isplitr; · iexact HJ
    isplitr; · iexact HI
    isplitl [Hs]; · iexact Hs
    isplitl [Hd]; · iexact Hd
    isplitl [HO]; · iexact HO
    isplitl [Htj]; · iexact Htj
    isplitr; · iexact HS
    isplitl [Hti]; · iexact Hti
    iexact HR
  rw [h₁]
  iintro ⟨Hc, HO⟩
  iapply Hk
  isplitl [Hc]; · iexact Hc
  iexists W; iexact HO

/-- The wait for a copy on the device's semaphore `x`: the device gets what the copy hands over, and the semaphore
    back at zero. It may wait where the semaphore ranks below all it still owes. -/
theorem wp_await (c : Dev nD) (x : Fin 13) (n cut : ℕ) (q : DmaSem sig) (hq : csem x = .dma q) (hx : x ≠ 0)
    (hcut : rank (csem x) ≤ cut) (hrank : ∀ i < n, cut < rank (csem (toCell i)))
    {s s' : Shape} {src : Memref sig .tc .vmem s' .f32} {dst : Memref sig .tc .vmem s .f32} {hsrc : src.view.WordExact} {hdst : dst.view.WordExact}
    {P : sProp 𝕄} (hP : pay m c x false = P)
    {α : Type} {Q : α → sProp 𝕄} {k : PUnit → Prog (TpuEff nD τ sig (Elt F) Λ₀ .tc) α} :
    iprop(⌜amt x = dst.view.dmaCredit⌝ ∗ marks m K ∗ levAts L lv ∗ cred (tallyAt (cell c x) () (amt x)) ∗ owing c n ∗ atPos EX (cell c x) 0 ∅ 0)
      ⊢ iprop(((owing c n ∗ semVal (cell c x) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owing
  have h : cell c x = ((c : Thread nD τ), SemLoc.dma q) := by rw [← hq]
  subst hP
  iintro ⟨%hN, #HM, #HL, Hc, ⟨%W, HO⟩, Ha⟩ Hk
  ihave ⟨#HI, -⟩ := (marks_at m K c x) $$ HM
  iapply (Rounds.wp_wait_rest_token 𝒱₀ EX (plan m) (c : Thread nD τ) none (κ := K (c, x)) (sm := .dma q) (k' := dst.view.dmaCredit)
      (wpE_waitDma2_eq 𝒱₀ (c : Thread nD τ) none Set.univ) (Set.mem_univ _) () (O := owe c n) (W := W) (R := 0) (m := 0) (T := ∅)
      (by rw [Nat.zero_add, ← h, plan_expect m c hx, hN])) $$ [Hc HO Ha]
  · rw [← h, ← hN, ← hq]
    isplitr; · iexact HI
    isplitl [Hc]; · iexact Hc
    isplitl [HO]; · iexact HO
    isplitr; · iapply (mayWait c (csem x) n cut hcut hrank); iexact HL
    iexact Ha
  rw [← h]
  iintro ⟨HO, Ha, -, Hp⟩
  ihave Hp := (Entails.of_eq (plan_rest m c hx)) $$ Hp
  imod (Rounds.cell_close EX (plan m) (Set.mem_univ (K (c, x))) (fun h => h) (R := 0 + 1) (plan_later m (cell c x))) $$ [Ha] with Hz
  · isplitr; · iexact HI
    iexact Ha
  iapply Hk
  isplitl [HO]; · iexists _; iexact HO
  isplitl [Hz]; · iexact Hz
  iexact Hp

/-- The wait at the barrier: the device gets what both neighbours grant it, and the barrier back at zero. -/
theorem wp_meet (c : Dev nD) (n cut : ℕ) (hcut : rank (csem 0) ≤ cut) (hrank : ∀ i < n, cut < rank (csem (toCell i)))
    {amount : ℕ} (ha : amount = 2)
    {α : Type} {Q : α → sProp 𝕄} {k : PUnit → Prog (TpuEff nD τ sig (Elt F) Λ₀ .tc) α} :
    iprop(marks m K ∗ levAts L lv ∗ cred (tallyAt (cell c 0) () 2) ∗ owing c n ∗ atPos EX (cell c 0) 0 ∅ 0)
      ⊢ iprop(((owing c n ∗ semVal (cell c 0) 0 ∗ fromLeft c ∗ fromRight c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS amount) k) Q) := by
  subst ha
  unfold owing
  iintro ⟨#HM, #HL, Hc, ⟨%W, HO⟩, Ha⟩ Hk
  ihave ⟨#HI, -⟩ := (marks_at m K c 0) $$ HM
  iapply (Rounds.wp_wait_rest_token 𝒱₀ EX (plan m) (c : Thread nD τ) none (κ := K (c, 0)) (sm := .reg barS) (k' := 2)
      (wpE_semWait_eq 𝒱₀ (c : Thread nD τ) none Set.univ) (Set.mem_univ _) () (O := owe c n) (W := W) (R := 0) (m := 0) (T := ∅)
      (by rw [Nat.zero_add]; exact (plan_expect_bar m c).symm)) $$ [Hc HO Ha]
  · isplitr; · iexact HI
    isplitl [Hc]; · iexact Hc
    isplitl [HO]; · iexact HO
    isplitr; · iapply (mayWait c (csem 0) n cut hcut hrank); iexact HL
    iexact Ha
  iintro ⟨HO, Ha, -, Hp⟩
  ihave Hp := (Entails.of_eq (show bigSep ((plan m).duties ((c : Thread nD τ), .reg barS) 0 \ ∅)
    (fun d => (plan m).payload ((c : Thread nD τ), .reg barS) 0 d) = iprop(fromLeft c ∗ fromRight c) from plan_rest_bar m c)) $$ Hp
  imod (Rounds.cell_close EX (plan m) (Set.mem_univ (K (c, 0))) (fun h => h) (R := 0 + 1) (plan_later m (cell c 0))) $$ [Ha] with Hz
  · isplitr; · iexact HI
    iexact Ha
  iapply Hk
  isplitl [HO]; · iexists _; iexact HO
  isplitl [Hz]; · iexact Hz
  iexact Hp

end Cert.KernelIdeal.AllToAll

end
-- ==== Proof.KernelIdealBody.lean ====
/-
The body of the all-to-all on one device: what it starts from and ends with, and its run step by step.
-/
module

public import proofs.«01_k».proof.Proof.KernelIdealSteps
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UG ℕ

variable (m : (ℓ : Loc nD τ sig) → Buf (Elt F) ℓ) (ρ : Dev nD → PrngReg)

/-- The machine at launch: any contents, every semaphore at zero. -/
def s₀ : MemSt nD τ sig (Elt F) := ⟨m, fun _ => 0, ρ⟩

/-! ## The buffers lent and gathered -/

/-- The elements `S` of the operand's staged block at contents `f`. -/
abbrev xAt (c : Dev nD) (S : Finset S512x2048.Idx) (f : (cc0_stg0_0 : Ref sig .tc).ty.Contents (Elt F)) : sProp 𝕄 :=
  ((c : Thread nD τ).loc cc0_stg0_0) ↦[S]{fullShare} f
/-- The elements `S` of the result's staged block at contents `f`. -/
abbrev oAt (c : Dev nD) (S : Finset S2048x512.Idx) (f : (cc0_stg1_0 : Ref sig .tc).ty.Contents (Elt F)) : sProp 𝕄 :=
  ((c : Thread nD τ).loc cc0_stg1_0) ↦[S]{fullShare} f

/-- The operand's block is the four pieces its copies read and the device's own columns. -/
theorem x_pieces (c : Dev nD) (f : (cc0_stg0_0 : Ref sig .tc).ty.Contents (Elt F)) :
    xAt c Finset.univ f ⊣⊢ iprop(held c (xRight c) f ∗ held c (xLeft c) f ∗ held c (xTop c) f ∗ held c (xBot c) f ∗ xAt c (xRest₄ c) f) :=
  (pointsTo_split_subset (Finset.subset_univ (xRight c).view.set)).trans (sep_congr_right
    ((pointsTo_split_subset (xLeft_sub c)).trans (sep_congr_right
      ((pointsTo_split_subset (xTop_sub c)).trans (sep_congr_right (pointsTo_split_subset (xBot_sub c)))))))

/-- The result's block is the four pieces its neighbours write and the device's own rows. -/
theorem o_pieces (c : Dev nD) (f : (cc0_stg1_0 : Ref sig .tc).ty.Contents (Elt F)) :
    oAt c Finset.univ f ⊣⊢ iprop(held c (oBlk (left c)) f ∗ held c (oTop (left c)) f ∗ held c (oBlk (right c)) f ∗ held c (oBot (right c)) f
      ∗ oAt c (oRest₄ c) f) :=
  (pointsTo_split_subset (Finset.subset_univ (oBlk (left c)).view.set)).trans (sep_congr_right
    ((pointsTo_split_subset (oTop_sub c)).trans (sep_congr_right
      ((pointsTo_split_subset (oBlk_sub c)).trans (sep_congr_right (pointsTo_split_subset (oBot_sub c)))))))

/-- Elements at some contents are spare. -/
theorem held_spare {s : Shape} (c : Dev nD) (v : Memref sig .tc .vmem s .f32) (f : Buf (Elt F) (v.view.loc (c : Thread nD τ))) :
    held c v f ⊢ (spare c v : sProp 𝕄) := by
  unfold spare; iintro H; iexists f; iexact H

/-! ## What the body starts from and ends with -/

/-- What the launch promises on a device's semaphore: all that its neighbours owe it there. -/
def due (k : Fin 13) : ℕ := ∑ i ∈ Finset.range 8, if toCell i = k then amt (toCell i) else 0

/-- A device's ghost state under the names `K`: what everyone knows, its place at each of its semaphores, and its
    rights to contribute. -/
def ghost (K : Dev nD × Fin 13 → ℕ) (c : Dev nD) : sProp 𝕄 :=
  iprop(marks m K ∗ (bigSep Finset.univ fun k : Fin 13 => atPos EX (cell c k) 0 ∅ 0) ∗ bigSep Finset.univ fun i : Fin 14 => turnTok c i.val)
/-- What the launch promises the device on its semaphores. -/
def promised (c : Dev nD) : sProp 𝕄 := bigSep Finset.univ fun k : Fin 13 => cred (tallyAt (cell c k) () (due k))
/-- What a device's kernel starts from beyond its buffers. -/
def start (c : Dev nD) : sProp 𝕄 := iprop((∃ K, ghost m K c) ∗ promised c ∗ levAts L lv)
/-- The two relay buffers. -/
def relays (c : Dev nD) : sProp 𝕄 := iprop(spare c frM ∗ spare c flM)
/-- The device's semaphores, all back at zero. -/
def zeros (c : Dev nD) : sProp 𝕄 := bigSep Finset.univ fun k : Fin 13 => semVal (cell c k) 0

/-- What the kernel holds before and after its body, and the contents it leaves in its windows. -/
def dats (_ : Fin 1) (c : Dev nD) : Dat τ (Elt F) Unit ℕ UG ℕ cfg0 c where
  A w := (s₀ m ρ).mem ((cfg0.win w).arr.view.loc (c : Thread nD τ))
  after w _ := match w with
    | ⟨0, _⟩ => xin m c
    | ⟨1, _⟩ => out m c
  Φ t := match t with
    | ⟨0, _⟩ => iprop(start m c ∗ relays c)
    | ⟨_ + 1, _⟩ => iprop(zeros c ∗ relays c)
  q _ := fullShare
  owed t := match t with
    | ⟨0, _⟩ => owe c 8
    | ⟨_ + 1, _⟩ => 0

/-- The operand is fetched. -/
theorem fetch_x (t : Fin cfg0.N) : (cfg0.win (0 : Fin 2)).fetch t = true := by rw [fin_N0 t]; rfl

/-- The whole of a buffer at contents `X`. -/
abbrev full (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Ownership through a whole buffer's view. -/
theorem owns_whole (c : Dev nD) (b : Ref sig .tc) (X : b.ty.Contents (Elt F)) :
    (owns (Ix := Unit) (Name := ℕ) (U := UG) (Lvl := ℕ) (c : Thread nD τ) (Memref.whole b) fullShare X : sProp 𝕄) = full c b X := by
  unfold owns; simp only [Memref.view_whole, View.read_whole, View.set_whole]

/-- Before the body. -/
def bodyPre (K : Dev nD × Fin 13 → ℕ) (c : Dev nD) : sProp 𝕄 :=
  iprop((ghost m K c ∗ promised c ∗ levAts L lv) ∗ owing c 8 ∗ xAt c Finset.univ (xin m c) ∗ ∃ f, oAt c Finset.univ f)
/-- After the body. -/
def bodyPost (c : Dev nD) : sProp 𝕄 :=
  iprop(zeros c ∗ relays c ∗ owing c 0 ∗ xAt c Finset.univ (xin m c) ∗ oAt c Finset.univ (out m c))

/-! ## Small facts the run uses -/

/-- A device number one step back is the left neighbour. -/
theorem to_left {n : ℕ} (hn : n < nD) (c : Dev nD) (h : n = (c.val + 3) % 4) : (⟨n, hn⟩ : Dev nD) = left c := Fin.ext h
/-- A device number one step forward is the right neighbour. -/
theorem to_right {n : ℕ} (hn : n < nD) (c : Dev nD) (h : n = (c.val + 1) % 4) : (⟨n, hn⟩ : Dev nD) = right c := Fin.ext h

/-- The thirteen semaphores' summands one by one. -/
theorem each13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [bigSep_univ_eq_bigSepL [0, 1, 2, 3, 4, 5, 6, 7, 8, 9, 10, 11, 12] (by decide) (by decide)]
  simp only [bigSepL_cons_cons, bigSepL_singleton]
  rfl
/-- The fourteen contributions' summands one by one. -/
theorem each14 (Φ : ℕ → sProp 𝕄) : (bigSep Finset.univ fun i : Fin 14 => Φ i.val)
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [bigSep_univ_eq_bigSepL [0, 1, 2, 3, 4, 5, 6, 7, 8, 9, 10, 11, 12, 13] (by decide) (by decide)]
  simp only [bigSepL_cons_cons, bigSepL_singleton]
  rfl

/-- Where one contribution of a neighbour goes, its amount is promised. -/
theorem due_one {k : Fin 13} (i : ℕ) (hi : i < 8) (h : toCell i = k) (hu : ∀ j < 8, toCell j = k → j = i) : due k = amt k := by
  unfold due
  rw [Finset.sum_eq_single_of_mem i (Finset.mem_range.mpr hi) fun j hj hne => if_neg fun e => hne (hu j (Finset.mem_range.mp hj) e), if_pos h, h]
/-- Both neighbours' signals are promised. -/
theorem due_bar : due 0 = 2 := by decide
/-- The promise where one contribution of a neighbour goes. -/
theorem promise_one (c : Dev nD) {k : Fin 13} (i : ℕ) (hi : i < 8) (h : toCell i = k) (hu : ∀ j < 8, toCell j = k → j = i) :
    (cred (tallyAt (cell c k) () (due k)) : sProp 𝕄) ⊢ cred (tallyAt (cell c k) () (amt k)) := Entails.of_eq (by rw [due_one i hi h hu])
/-- The promise at the barrier. -/
theorem promise_bar (c : Dev nD) : (cred (tallyAt (cell c 0) () (due 0)) : sProp 𝕄) ⊢ cred (tallyAt (cell c 0) () 2) := Entails.of_eq (by rw [due_bar])

/-- What a device grants its left neighbour. -/
theorem grant_left (c : Dev nD) :
    iprop(spare c frM ∗ spare c (oBlk (left c)) ∗ spare c (oTop (left c))) ⊢ (pay m (way 7 c) 0 (toDue 7) : sProp 𝕄) :=
  Entails.of_eq (show _ = fromRight (left c) by unfold fromRight; rw [right_left])
/-- What a device grants its right neighbour. -/
theorem grant_right (c : Dev nD) :
    iprop(spare c flM ∗ spare c (oBlk (right c)) ∗ spare c (oBot (right c))) ⊢ (pay m (way 6 c) 0 (toDue 6) : sProp 𝕄) :=
  Entails.of_eq (show _ = fromLeft (right c) by unfold fromLeft; rw [left_right])

set_option maxHeartbeats 4000000 in
set_option maxRecDepth 4000 in
/-- The body's run, step by step in program order. -/
theorem body_run (K : Dev nD × Fin 13 → ℕ) (c : Dev nD) (Kt : PUnit → sProp 𝕄) :
    iprop((bodyPre m K c ∗ relays c) ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt := by
  simp only [cc0_body_eq_skeleton]
  unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost promised relays
  rw [each13, each13, each14 (turnTok c)]
  iintro ⟨⟨⟨⟨⟨#HM, ⟨Ha0, Ha1, Ha2, Ha3, Ha4, Ha5, Ha6, Ha7, Ha8, Ha9, Ha10, Ha11, Ha12⟩,
      ⟨Ht0, Ht1, Ht2, Ht3, Ht4, Ht5, Ht6, Ht7, Ht8, Ht9, Ht10, Ht11, Ht12, Ht13⟩⟩,
    ⟨Hc0, -, -, Hc3, Hc4, -, -, Hc7, Hc8, -, -, Hc11, Hc12⟩, #HL⟩, HO, Hx, ⟨%f, Ho⟩⟩, HfR, HfL⟩, Hk⟩
  ihave Hc0 := (promise_bar c) $$ Hc0
  ihave Hc3 := (promise_one c (k := 3) 5 (by decide) rfl (by decide)) $$ Hc3
  ihave Hc4 := (promise_one c (k := 4) 4 (by decide) rfl (by decide)) $$ Hc4
  ihave Hc7 := (promise_one c (k := 7) 3 (by decide) rfl (by decide)) $$ Hc7
  ihave Hc8 := (promise_one c (k := 8) 2 (by decide) rfl (by decide)) $$ Hc8
  ihave Hc11 := (promise_one c (k := 11) 1 (by decide) rfl (by decide)) $$ Hc11
  ihave Hc12 := (promise_one c (k := 12) 0 (by decide) rfl (by decide)) $$ Hc12
  ihave Hx := (x_pieces c (xin m c)).1 $$ Hx
  icases Hx with ⟨HxR, HxL, HxT, HxB, Hx⟩
  ihave Ho := (o_pieces c f).1 $$ Ho
  icases Ho with ⟨HoL, HoT, HoR, HoB, Ho⟩
  ihave HoL := (held_spare c (oBlk (left c)) f) $$ HoL
  ihave HoT := (held_spare c (oTop (left c)) f) $$ HoT
  ihave HoR := (held_spare c (oBlk (right c)) f) $$ HoR
  ihave HoB := (held_spare c (oBot (right c)) f) $$ HoB
  -- the two signals
  iapply (wp_tell m K c _ 7 rfl (to_left (k0_dev1_lt c) c (k0_dev1_eq c)) rfl) $$ [HO Ht7 HfR HoL HoT]
  · isplitr; · iexact HM
    isplitl [HO]; · iexact HO
    isplitl [Ht7]; · iexact Ht7
    iapply (grant_left m c)
    isplitl [HfR]; · iexact HfR
    isplitl [HoL] <;> iassumption
  iintro HO
  iapply (wp_tell m K c _ 6 rfl (to_right (k0_dev2_lt c) c (k0_dev2_eq c)) rfl) $$ [HO Ht6 HfL HoR HoB]
  · isplitr; · iexact HM
    isplitl [HO]; · iexact HO
    isplitl [Ht6]; · iexact Ht6
    iapply (grant_right m c)
    isplitl [HfL]; · iexact HfL
    isplitl [HoR] <;> iassumption
  iintro HO
  -- the barrier
  iapply (wp_meet m K c 6 1 (by decide) (by decide) rfl) $$ [Hc0 HO Ha0]
  · isplitr; · iexact HM
    isplitr; · iexact HL
    isplitl [Hc0]; · iexact Hc0
    isplitl [HO] <;> iassumption
  unfold fromLeft fromRight
  iintro ⟨HO, Hz0, ⟨HfL, HoL, HoB⟩, ⟨HfR, HoR, HoT⟩⟩
  -- the whole blocks to both neighbours
  iapply (wp_copy m K c _ 5 13 1 3 (right c) _ _ rfl rfl rfl rfl rfl rfl rfl rfl (to_right (k0_dev3_lt c) c (k0_dev3_eq c)) (src := xRight c) (dst := oBlk c)
      (fs := xin m c) (ft := out m (right c)) rfl
      (congrArg (fun d => held (right c) (oBlk d) (out m (right c))) (left_right c)) rfl rfl (copy_right m c)) $$ [HxR HoR HO Ht13 Ht5]
  · isplitr; · iexact HM
    isplitl [HxR]; · iexact HxR
    isplitl [HoR]; · iexact HoR
    isplitl [HO]; · iexact HO
    isplitl [Ht13] <;> iassumption
  iintro ⟨Hc1, HO⟩
  iapply (wp_copy m K c _ 4 12 2 4 (left c) _ _ rfl rfl rfl rfl rfl rfl rfl rfl (to_left (k0_dev4_lt c) c (k0_dev4_eq c)) (src := xLeft c) (dst := oBlk c)
      (fs := xin m c) (ft := out m (left c)) rfl
      (congrArg (fun d => held (left c) (oBlk d) (out m (left c))) (right_left c)) rfl rfl (copy_left m c)) $$ [HxL HoL HO Ht12 Ht4]
  · isplitr; · iexact HM
    isplitl [HxL]; · iexact HxL
    isplitl [HoL]; · iexact HoL
    isplitl [HO]; · iexact HO
    isplitl [Ht12] <;> iassumption
  iintro ⟨Hc2, HO⟩
  -- the first legs of both relays
  iapply (wp_copy m K c _ 3 11 5 7 (right c) _ _ rfl rfl rfl rfl rfl rfl rfl rfl (to_right (k0_dev5_lt c) c (k0_dev5_eq c)) (src := xTop c) (dst := frM)
      (fs := xin m c) (ft := fwdR m (right c)) rfl rfl rfl rfl (copy_top m c)) $$ [HxT HfR HO Ht11 Ht3]
  · isplitr; · iexact HM
    isplitl [HxT]; · iexact HxT
    isplitl [HfR]; · iexact HfR
    isplitl [HO]; · iexact HO
    isplitl [Ht11] <;> iassumption
  iintro ⟨Hc5, HO⟩
  iapply (wp_copy m K c _ 2 10 6 8 (left c) _ _ rfl rfl rfl rfl rfl rfl rfl rfl (to_left (k0_dev6_lt c) c (k0_dev6_eq c)) (src := xBot c) (dst := flM)
      (fs := xin m c) (ft := fwdL m (left c)) rfl rfl rfl rfl (copy_bot m c)) $$ [HxB HfL HO Ht10 Ht2]
  · isplitr; · iexact HM
    isplitl [HxB]; · iexact HxB
    isplitl [HfL]; · iexact HfL
    isplitl [HO]; · iexact HO
    isplitl [Ht10] <;> iassumption
  iintro ⟨Hc6, HO⟩
  -- its own rows
  iapply (wp_load 𝒱₀ (c : Thread nD τ) none Set.univ (m := xM) (xOwn_sub c)) $$ Hx
  iintro Hx
  iapply (wp_load 𝒱₀ (c : Thread nD τ) none Set.univ (m := oM) (r := (ownRows c).toLoadRect)
      (fun i hi => ownRows_sub c (by rw [View.set_slice]; exact hi))) $$ Ho
  iintro Ho
  iapply (wp_store 𝒱₀ (c : Thread nD τ) none Set.univ (m := oM) (r := ownRows c) (Mk := Finset.univ) (ownRows_sub c)) $$ Ho
  iintro Ho
  ihave Ho := (Entails.of_eq (pointsTo_congr (own_store m c f))) $$ Ho
  -- the second legs of both relays, once their first legs are in
  iapply (wp_await m K c 7 2 2 _ rfl (by decide) (by decide) (by decide) (P := held c frM (fwdR m c)) rfl) $$ [Hc7 HO Ha7]
  · isplitr; · ipureintro; rfl
    isplitr; · iexact HM
    isplitr; · iexact HL
    isplitl [Hc7]; · iexact Hc7
    isplitl [HO] <;> iassumption
  iintro ⟨HO, Hz7, HfR⟩
  iapply (wp_copy m K c _ 1 9 9 11 (right c) _ _ rfl rfl rfl rfl rfl rfl rfl rfl (to_right (k0_dev7_lt c) c (k0_dev7_eq c)) (src := frM) (dst := oTop c)
      (fs := fwdR m c) (ft := out m (right c)) rfl
      (congrArg (fun d => held (right c) (oTop d) (out m (right c))) (left_right c)) rfl rfl (relay_right m c)) $$ [HfR HoT HO Ht9 Ht1]
  · isplitr; · iexact HM
    isplitl [HfR]; · iexact HfR
    isplitl [HoT]; · iexact HoT
    isplitl [HO]; · iexact HO
    isplitl [Ht9] <;> iassumption
  iintro ⟨Hc9, HO⟩
  iapply (wp_await m K c 8 1 2 _ rfl (by decide) (by decide) (by decide) (P := held c flM (fwdL m c)) rfl) $$ [Hc8 HO Ha8]
  · isplitr; · ipureintro; rfl
    isplitr; · iexact HM
    isplitr; · iexact HL
    isplitl [Hc8]; · iexact Hc8
    isplitl [HO] <;> iassumption
  iintro ⟨HO, Hz8, HfL⟩
  iapply (wp_copy m K c _ 0 8 10 12 (left c) _ _ rfl rfl rfl rfl rfl rfl rfl rfl (to_left (k0_dev8_lt c) c (k0_dev8_eq c)) (src := flM) (dst := oBot c)
      (fs := fwdL m c) (ft := out m (left c)) rfl
      (congrArg (fun d => held (left c) (oBot d) (out m (left c))) (right_left c)) rfl rfl (relay_left m c)) $$ [HfL HoB HO Ht8 Ht0]
  · isplitr; · iexact HM
    isplitl [HfL]; · iexact HfL
    isplitl [HoB]; · iexact HoB
    isplitl [HO]; · iexact HO
    isplitl [Ht8] <;> iassumption
  iintro ⟨Hc10, HO⟩
  -- what the neighbours sent is in
  iapply (wp_await m K c 3 0 3 _ rfl (by decide) (by decide) (by decide) (P := held c (oBlk (left c)) (out m c)) rfl) $$ [Hc3 HO Ha3]
  · isplitr; · ipureintro; rfl
    isplitr; · iexact HM
    isplitr; · iexact HL
    isplitl [Hc3]; · iexact Hc3
    isplitl [HO] <;> iassumption
  iintro ⟨HO, Hz3, HoL⟩
  iapply (wp_await m K c 4 0 3 _ rfl (by decide) (by decide) (by decide) (P := held c (oBlk (right c)) (out m c)) rfl) $$ [Hc4 HO Ha4]
  · isplitr; · ipureintro; rfl
    isplitr; · iexact HM
    isplitr; · iexact HL
    isplitl [Hc4]; · iexact Hc4
    isplitl [HO] <;> iassumption
  iintro ⟨HO, Hz4, HoR⟩
  iapply (wp_await m K c 11 0 3 _ rfl (by decide) (by decide) (by decide) (P := held c (oTop (left c)) (out m c)) rfl) $$ [Hc11 HO Ha11]
  · isplitr; · ipureintro; rfl
    isplitr; · iexact HM
    isplitr; · iexact HL
    isplitl [Hc11]; · iexact Hc11
    isplitl [HO] <;> iassumption
  iintro ⟨HO, Hz11, HoT⟩
  iapply (wp_await m K c 12 0 3 _ rfl (by decide) (by decide) (by decide) (P := held c (oBot (right c)) (out m c)) rfl) $$ [Hc12 HO Ha12]
  · isplitr; · ipureintro; rfl
    isplitr; · iexact HM
    isplitr; · iexact HL
    isplitl [Hc12]; · iexact Hc12
    isplitl [HO] <;> iassumption
  iintro ⟨HO, Hz12, HoB⟩
  -- what it sent has left
  iapply (wp_await m K c 1 0 3 _ rfl (by decide) (by decide) (by decide) (P := held c (xRight c) (xin m c)) rfl) $$ [Hc1 HO Ha1]
  · isplitr; · ipureintro; rfl
    isplitr; · iexact HM
    isplitr; · iexact HL
    isplitl [Hc1]; · iexact Hc1
    isplitl [HO] <;> iassumption
  iintro ⟨HO, Hz1, HxR⟩
  iapply (wp_await m K c 2 0 3 _ rfl (by decide) (by decide) (by decide) (P := held c (xLeft c) (xin m c)) rfl) $$ [Hc2 HO Ha2]
  · isplitr; · ipureintro; rfl
    isplitr; · iexact HM
    isplitr; · iexact HL
    isplitl [Hc2]; · iexact Hc2
    isplitl [HO] <;> iassumption
  iintro ⟨HO, Hz2, HxL⟩
  iapply (wp_await m K c 5 0 3 _ rfl (by decide) (by decide) (by decide) (P := held c (xTop c) (xin m c)) rfl) $$ [Hc5 HO Ha5]
  · isplitr; · ipureintro; rfl
    isplitr; · iexact HM
    isplitr; · iexact HL
    isplitl [Hc5]; · iexact Hc5
    isplitl [HO] <;> iassumption
  iintro ⟨HO, Hz5, HxT⟩
  iapply (wp_await m K c 6 0 3 _ rfl (by decide) (by decide) (by decide) (P := held c (xBot c) (xin m c)) rfl) $$ [Hc6 HO Ha6]
  · isplitr; · ipureintro; rfl
    isplitr; · iexact HM
    isplitr; · iexact HL
    isplitl [Hc6]; · iexact Hc6
    isplitl [HO] <;> iassumption
  iintro ⟨HO, Hz6, HxB⟩
  iapply (wp_await m K c 9 0 3 _ rfl (by decide) (by decide) (by decide) (P := held c frM (fwdR m c)) rfl) $$ [Hc9 HO Ha9]
  · isplitr; · ipureintro; rfl
    isplitr; · iexact HM
    isplitr; · iexact HL
    isplitl [Hc9]; · iexact Hc9
    isplitl [HO] <;> iassumption
  iintro ⟨HO, Hz9, HfR⟩
  iapply (wp_await m K c 10 0 3 _ rfl (by decide) (by decide) (by decide) (P := held c flM (fwdL m c)) rfl) $$ [Hc10 HO Ha10]
  · isplitr; · ipureintro; rfl
    isplitr; · iexact HM
    isplitr; · iexact HL
    isplitl [Hc10]; · iexact Hc10
    isplitl [HO] <;> iassumption
  iintro ⟨HO, Hz10, HfL⟩
  rw [wp_ret]; imodintro
  iapply Hk
  unfold bodyPost zeros relays
  rw [each13]
  isplitl [Hz0 Hz1 Hz2 Hz3 Hz4 Hz5 Hz6 Hz7 Hz8 Hz9 Hz10 Hz11 Hz12]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11] <;> iassumption
  isplitl [HfR HfL]
  · isplitl [HfR]
    · iapply (held_spare c frM (fwdR m c)); iexact HfR
    · iapply (held_spare c flM (fwdL m c)); iexact HfL
  isplitl [HO]; · iexact HO
  isplitl [HxR HxL HxT HxB Hx]
  · iapply (x_pieces c (xin m c)).2
    isplitl [HxR]; · iexact HxR
    isplitl [HxL]; · iexact HxL
    isplitl [HxT]; · iexact HxT
    isplitl [HxB] <;> iassumption
  iapply (o_pieces c (out m c)).2
  isplitl [HoL]; · iexact HoL
  isplitl [HoT]; · iexact HoT
  isplitl [HoR]; · iexact HoR
  isplitl [HoB] <;> iassumption

/-! ## The body as the launch asks for it -/

/-- Before the body, as the launch gives it. -/
def givenPre (c : Dev nD) : sProp 𝕄 :=
  iprop((start m c ∗ relays c) ∗ (dats m ρ 0 c).owesAt () t0_0.castSucc
    ∗ (∃ d, full c cc0_stg0_0 ((dats m ρ 0 c).before (0 : Fin 2) t0_0 d))
    ∗ (∃ d, full c cc0_stg1_0 ((dats m ρ 0 c).before (1 : Fin 2) t0_0 d)))
/-- After the body, as the launch wants it. -/
def wantedPost (c : Dev nD) : sProp 𝕄 :=
  iprop((zeros c ∗ relays c) ∗ (dats m ρ 0 c).owesAt () t0_0.succ ∗ full c cc0_stg0_0 (xin m c) ∗ full c cc0_stg1_0 (out m c))

/-- What the launch gives is what the body starts from. -/
theorem given_elim (c : Dev nD) : givenPre m ρ c ⊢ iprop(∃ K, bodyPre m K c ∗ relays c) := by
  unfold givenPre start bodyPre owing Dat.owesAt Pipeline.owesWithin
  iintro ⟨⟨⟨⟨%K, Hg⟩, Hp, HL⟩, Hr⟩, ⟨%W, -, HO⟩, ⟨%d0, %g0, %hg0, Hx⟩, ⟨%d1, %g1, -, Ho⟩⟩
  have hx : g0 = xin m c := by rw [hg0]; unfold Dat.before; rw [if_pos (fetch_x t0_0)]; rfl
  subst hx
  iexists K
  isplitr [Hr]
  · isplitl [Hg Hp HL]
    · isplitl [Hg]; · iexact Hg
      isplitl [Hp] <;> iassumption
    isplitl [HO]; · iexists W; iexact HO
    isplitl [Hx]; · iexact Hx
    iexists g1; iexact Ho
  iexact Hr

/-- What the body ends with is what the launch wants. -/
theorem wanted_intro (c : Dev nD) : bodyPost m c ⊢ wantedPost m ρ c := by
  unfold wantedPost bodyPost owing Dat.owesAt Pipeline.owesWithin
  rw [owe_zero]
  iintro ⟨Hz, Hr, ⟨%W, HO⟩, Hx, Ho⟩
  isplitl [Hz Hr]
  · isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The body on one device meets what the launch asks of it. -/
theorem body_obligation (c : Dev nD) : BodyObligation (dats (F := F) m ρ 0 c) (defs₀ (F := F)) 𝒱₀ () Set.univ := fun t => by
  rw [fin_N0 t, bigSep_W0, bigSep_W0]
  simp only [owns_whole]
  show givenPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => wantedPost m ρ c)
  iintro H
  ihave H := (given_elim m ρ c) $$ H
  icases H with ⟨%K, H⟩
  iapply (body_run m K c fun _ => wantedPost m ρ c)
  isplitl [H]; · iexact H
  iintro H
  iapply (wanted_intro m ρ c)
  iexact H

end Cert.KernelIdeal.AllToAll

end
-- ==== Proof.KernelIdealRun.lean ====
/-
The whole launch of the all-to-all: its semaphores' invariants set up on all devices at once, the rights to contribute
dealt around the ring, and the run of the four bodies.
-/
module

public import proofs.«01_k».proof.Proof.KernelIdealBody
public import Idealize.ShloMosaic.Lib.Pipeline.CollectiveSegs

@[expose] public section

noncomputable section

namespace Cert.KernelIdeal.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UG ℕ

variable (m : (ℓ : Loc nD τ sig) → Buf (Elt F) ℓ) (ρ : Dev nD → PrngReg)

/-! ## What is minted -/

/-- The kernel's own semaphores: all but the barrier. -/
abbrev osem : Fin 12 → SemLoc sig := fun k => csem k.succ
/-- They are the ones the launch declares. -/
theorem ownSemFacts : Pipeline.OwnSemFacts cfg0.spec osem := by decide
/-- Every window is held outright. -/
theorem share_eq (c : Dev nD) (w : Fin cfg0.W) : (dats m ρ 0 c).share w = fullShare := by unfold Dat.share; split <;> rfl

/-- Two devices' semaphores are one only for one device and one index. -/
theorem cell_inj {c d : Dev nD} {k l : Fin 13} (h : cell c k = cell d l) : c = d ∧ k = l :=
  ⟨congrArg (fun g : GSem nD τ sig => g.1.1) h, csem_inj (congrArg Prod.snd h)⟩

/-- All the semaphores of the protocol. -/
def allCells : Finset (GSem nD τ sig) :=
  Finset.univ.map ⟨fun p : Dev nD × Fin 13 => cell p.1 p.2, fun p q h => Prod.ext (cell_inj h).1 (cell_inj h).2⟩

/-- The contributions are told apart by semaphore and name. -/
theorem turn_inj : ∀ i j : Fin 14, toCell i.val = toCell j.val → toDue i.val = toDue j.val → i = j := by decide
/-- All the rights to contribute, by the device contributed to. -/
def allToks : Finset (GSem nD τ sig × ℕ × Bool) :=
  Finset.univ.map ⟨fun p : Dev nD × Fin 14 => (cell p.1 (toCell p.2.val), 0, toDue p.2.val), fun p q h =>
    Prod.ext (cell_inj (congrArg (fun x : GSem nD τ sig × ℕ × Bool => x.1) h)).1
      (turn_inj _ _ (cell_inj (congrArg (fun x : GSem nD τ sig × ℕ × Bool => x.1) h)).2 (congrArg (fun x : GSem nD τ sig × ℕ × Bool => x.2.2) h))⟩

/-- The ghost state the launch starts from: the staging library's and the protocol's. -/
def u₀ : UG := (initOf (Pipeline.cells cfgs cellOf_inj) (Pipeline.launchToks cfgs cellOf_inj), initOf allCells allToks)

/-- A right to contribute to device `c`'s semaphores. -/
abbrev homeTok (c : Dev nD) (i : ℕ) : sProp 𝕄 := dutyTok EX (cell c (toCell i)) 0 (toDue i)

/-- What is minted for device `c`'s semaphores. -/
def minted (c : Dev nD) : sProp 𝕄 :=
  iprop((bigSep Finset.univ fun k : Fin 13 => roundState EX (plan m) (cell c k) 0)
    ∗ (bigSep Finset.univ fun k : Fin 13 => atPos EX (cell c k) 0 ∅ 0)
    ∗ (bigSep Finset.univ fun k : Fin 13 => reached EX (cell c k) 0)
    ∗ bigSep Finset.univ fun i : Fin 14 => homeTok c i.val)

/-- A product over all the semaphores, device by device. -/
theorem over_cells (Φ : GSem nD τ sig → sProp 𝕄) :
    bigSep allCells Φ = bigSep Finset.univ fun c : Dev nD => bigSep Finset.univ fun k : Fin 13 => Φ (cell c k) := by
  unfold allCells; rw [bigSep_map, bigSep_univ_prod]; rfl
/-- A product over all the rights, device by device. -/
theorem over_toks : bigSep allToks (fun x => (dutyTok EX x.1 x.2.1 x.2.2 : sProp 𝕄))
    = bigSep Finset.univ fun c : Dev nD => bigSep Finset.univ fun i : Fin 14 => homeTok c i.val := by
  unfold allToks; rw [bigSep_map, bigSep_univ_prod]; rfl

/-- The protocol's ghost state is what is minted for the devices. -/
theorem mint : BI.own (EX (initOf allCells allToks)) ⊢ (|==> bigSep Finset.univ (minted m) : sProp 𝕄) := by
  iintro HX
  imod (Rounds.fund EX (plan m) allCells allToks) $$ HX with ⟨Hst, Hr, Hat, Htok⟩
  imodintro
  ihave Hst := (Entails.of_eq (over_cells fun g => roundState EX (plan m) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold minted; simp only [bigSep_sep']
  isplitl [Hst]; · iexact Hst
  isplitl [Hat]; · iexact Hat
  isplitl [Hr] <;> iassumption

/-! ## The invariants set up and the rights dealt -/

/-- The kernel's own semaphores and the barrier at zero are the protocol's thirteen at zero. -/
theorem sems0_eq (c : Dev nD) :
    iprop(unscopedSems0 c ∗ Pipeline.ownSems0 (Ix := Unit) (Name := ℕ) (U := UG) (Lvl := ℕ) (Val := Elt F) (τ := τ) osem c) = (zeros c : sProp 𝕄) := by
  unfold zeros unscopedSems0
  rw [each13, bigSep_eq_bigSepL_of_eq [SemLoc.reg barS] (by decide) (by decide),
    Pipeline.ownSems0_eq_of_list c osem [0, 1, 2, 3, 4, 5, 6, 7, 8, 9, 10, 11] (by decide) (by decide)]
  rfl

/-- On one device every semaphore gets an invariant. -/
theorem alloc (c : Dev nD) :
    iprop(Pipeline.ownSems0 (Ix := Unit) (Name := ℕ) (U := UG) (Lvl := ℕ) (Val := Elt F) (τ := τ) osem c ∗ unscopedSems0 c ∗ minted m c)
      ⊢ |={Set.univ}=> iprop((bigSep Finset.univ fun k : Fin 13 => iprop(∃ κ : ℕ, cellInv EX (plan m) κ (cell c k)))
          ∗ (bigSep Finset.univ fun k : Fin 13 => atPos EX (cell c k) 0 ∅ 0)
          ∗ (bigSep Finset.univ fun k : Fin 13 => reached EX (cell c k) 0)
          ∗ bigSep Finset.univ fun i : Fin 14 => homeTok c i.val) := by
  unfold minted
  iintro ⟨Hos, Hus, Hst, Hrest⟩
  ihave Hv := (Entails.of_eq (sems0_eq (F := F) c)) $$ [Hos Hus]
  · isplitl [Hus] <;> iassumption
  unfold zeros
  imod (show iprop((bigSep Finset.univ fun k : Fin 13 => semVal (cell c k) 0) ∗ bigSep Finset.univ fun k : Fin 13 => roundState EX (plan m) (cell c k) 0)
      ⊢ (|={Set.univ}=> bigSep Finset.univ fun k : Fin 13 => iprop(∃ κ : ℕ, cellInv EX (plan m) κ (cell c k)) : sProp 𝕄) from by
        rw [← bigSep_sep']
        exact (bigSep_mono fun k _ => (Rounds.body_intro EX (plan m) (cell c k)).trans inv_alloc).trans (bigSep_fupd _ _)) $$ [Hv Hst] with Hinv
  · isplitl [Hv] <;> iassumption
  imodintro
  isplitl [Hinv] <;> iassumption

/-- The rights to contribute, dealt from the device contributed to, to the device that contributes. -/
theorem toks_around : (bigSep Finset.univ fun c : Dev nD => bigSep Finset.univ fun i : Fin 14 => homeTok c i.val : sProp 𝕄)
    = bigSep Finset.univ fun c : Dev nD => bigSep Finset.univ fun i : Fin 14 => turnTok c i.val := by
  rw [bigSep_univ_comm, bigSep_univ_comm (fun (c : Dev nD) (i : Fin 14) => (turnTok c i.val : sProp 𝕄))]
  exact bigSep_congr fun i _ => bigSep_univ_equiv (way i.val) (fun c : Dev nD => (homeTok c i.val : sProp 𝕄))

/-- Every device gets its ghost state. -/
theorem deal :
    (bigSep Finset.univ fun c : Dev nD => iprop((bigSep Finset.univ fun k : Fin 13 => iprop(∃ κ : ℕ, cellInv EX (plan m) κ (cell c k)))
          ∗ (bigSep Finset.univ fun k : Fin 13 => atPos EX (cell c k) 0 ∅ 0)
          ∗ (bigSep Finset.univ fun k : Fin 13 => reached EX (cell c k) 0)
          ∗ bigSep Finset.univ fun i : Fin 14 => homeTok c i.val) : sProp 𝕄)
      ⊢ bigSep Finset.univ fun c : Dev nD => iprop(∃ K, ghost m K c) := by
  rw [bigSep_sep', bigSep_sep', bigSep_sep', toks_around,
    ← bigSep_univ_prod (fun p : Dev nD × Fin 13 => iprop(∃ κ : ℕ, cellInv EX (plan m) κ (cell p.1 p.2))),
    ← bigSep_univ_prod (fun p : Dev nD × Fin 13 => (reached EX (cell p.1 p.2) 0 : sProp 𝕄))]
  iintro ⟨HI, Hat, #HR, Htok⟩
  ihave HK := (BI.bigSep_exists_pi Finset.univ (fun (p : Dev nD × Fin 13) (κ : ℕ) => (cellInv EX (plan m) κ (cell p.1 p.2) : sProp 𝕄))) $$ HI
  icases HK with ⟨%K, #HI⟩
  iapply (BI.bigSep_with_persistent (R := marks m K)
    (Φ := fun c : Dev nD => iprop((bigSep Finset.univ fun k : Fin 13 => atPos EX (cell c k) 0 ∅ 0) ∗ bigSep Finset.univ fun i : Fin 14 => turnTok c i.val))
    fun c _ => show _ ⊢ iprop(∃ K, ghost m K c) by unfold ghost; iintro H; iexists K; iexact H)
  isplitr
  · unfold marks mark; rw [bigSep_sep']
    isplitl; · iexact HI
    iexact HR
  · rw [bigSep_sep']
    isplitl [Hat] <;> iassumption

/-- From what is minted and the semaphores at zero, on all devices at once, every device's ghost state. -/
theorem glob : (bigSep Finset.univ fun c => iprop(Pipeline.ownSems0 (Ix := Unit) (Name := ℕ) (U := UG) (Lvl := ℕ) (Val := Elt F) (τ := τ) osem c ∗ unscopedSems0 c ∗ minted m c) : sProp 𝕄)
    ⊢ |={Set.univ}=> bigSep Finset.univ fun c : Dev nD => iprop(∃ K, ghost m K c) :=
  ((bigSep_mono fun c _ => alloc m c).trans (bigSep_fupd _ _)).trans (BI.fupd_mono (deal m))

/-! ## What the launch promises -/

/-- At one semaphore the launch promises all that its device's neighbours owe there. -/
theorem promise_at (c : Dev nD) (k : Fin 13) :
    tallyOn (cell c k) (launchCredit (Pipeline.owing fun d => owe d 8) 0 (cell c k)) = (tallyAt (cell c k) () (due k) : CellTallies nD τ sig Unit) := by
  unfold tallyAt; refine congrArg _ (Finsupp.ext fun u => ?_); cases u
  rw [Pipeline.launchCredit_owing, Finsupp.single_eq_same, Finset.sum_congr rfl fun d _ => owe_apply d 8 (cell c k) (), Finset.sum_comm]
  unfold due
  refine Finset.sum_congr rfl fun i _ => ?_
  by_cases hk : toCell i = k
  · rw [if_pos hk, Finset.sum_eq_single_of_mem ((way i).symm c) (Finset.mem_univ _)
      fun d _ hd => if_neg fun h => hd (by rw [(cell_inj h).1, Equiv.symm_apply_apply]), Equiv.apply_symm_apply, hk, if_pos rfl]
  · rw [if_neg hk]
    exact Finset.sum_eq_zero fun d _ => if_neg fun h => hk (cell_inj h).2.symm

/-- What the launch promises a device on its semaphores. -/
theorem promises (c : Dev nD) : (Pipeline.launchCred (fun d => owe d 8) c : sProp 𝕄) ⊢ promised c := by
  unfold Pipeline.launchCred promised
  refine (bigSep_subset (Finset.subset_univ (Finset.univ.map ⟨csem, csem_inj⟩))).trans ?_
  rw [bigSep_map]
  exact bigSep_mono fun k _ => Entails.of_eq (congrArg cred (promise_at c k))

/-! ## The launch's conditions -/

/-- What the kernel starts from. -/
theorem start_intro (c : Dev nD) :
    iprop(Pipeline.unscopedRestP Pipeline.Prefetch.none cfg0.spec c (fun b => m ((c : Thread nD τ).loc b)) ∗ levAts L lv
        ∗ Pipeline.launchCred (fun d => owe d 8) c ∗ prngReg c (ρ c) ∗ ∃ K, ghost m K c)
      ⊢ |={Set.univ}=> iprop(start m c ∗ emp) := by
  iintro ⟨-, HL, Hp, -, Hg⟩
  ihave Hp := (promises (F := F) c) $$ Hp
  imodintro
  unfold start
  isplitl
  · isplitl [Hg]; · iexact Hg
    isplitl [Hp] <;> iassumption
  · iempintro

/-- A whole buffer at any contents is spare. -/
theorem relays_eq (c : Dev nD) : (Pipeline.scopedRest cfg0.spec c : sProp 𝕄) = relays c := by
  rw [scopedRest0_eq]
  unfold relays spare held
  rw [show frM.view.set = Finset.univ from View.set_whole _, show flM.view.set = Finset.univ from View.set_whole _]

/-- The body starts from the start and the relay buffers. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ relays c) from rfl, relays_eq]
  iintro ⟨Hs, -, Hr⟩
  isplitl [Hs] <;> iassumption

/-- The body gives back its semaphores at zero and the relay buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ relays c) from rfl, relays_eq, ← sems0_eq]
  iintro ⟨⟨Hu, Ho⟩, Hr⟩
  isplitl [Hu]; · iexact Hu
  isplitl [Ho] <;> iassumption

/-- The staging's semaphores rank lowest. -/
theorem stage_rank : ∀ (w : Fin cfg0.W) (s : Fin (cfg0.win w).nbuf), rank (.dma ((cfg0.win w).sem s)) ≤ 0 := by decide
/-- The staging's waits are ranked below everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 8 0 (stage_rank w s) (by decide)
    · refine (mayWait c _ 0 0 (stage_rank w s) (by decide)).trans (Entails.of_eq ?_)
      rw [owe_zero]; rfl

/-! ## The run -/

/-- What an array holds after the run. -/
def finalA (c : Dev nD) (w : Fin cfg0.W) : Buf (Elt F) ((cfg0.win w).arr.view.loc (c : Thread nD τ)) := (dats m ρ 0 c).arrAt w cfg0.N

/-- Every array of every device holds what the run leaves in it. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any contents, with every semaphore at zero, every fair execution of the four kernels ends with every array as
    the run leaves it and every semaphore back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 8) (howed₀ := fun _ => rfl) (howedN := fun _ => rfl)
    (L := L) (lv := lv) (hL := L_of_ne) (hwaits := waits m ρ)
    (G := minted m) (G' := fun c => iprop(∃ K, ghost m K c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AllToAll

end
-- ==== Proof.KernelIdealValue.lean ====
/-
What the arrays hold after the run, as parts of one whole matrix: the result of each device is its columns of the
matrix of which the operands of the devices are the rows.
-/
module

public import proofs.«01_k».proof.Proof.KernelIdealRun
public import Idealize.ShloMosaic.Lib.Layout

@[expose] public section

noncomputable section

namespace Cert.KernelIdeal.AllToAll

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- The staged operand is the argument itself. -/
theorem xin_eq (c : Dev nD) : xin m c = m ((c : Thread nD τ).loc main_arg0) := by
  funext i
  have e : (win0_0.blk (0 : Fin 1)).view.emb i = i := by
    funext a
    apply Fin.ext
    match a with
    | ⟨0, _⟩ => exact (Nat.zero_add _).trans (Nat.one_mul _)
    | ⟨1, _⟩ => exact (Nat.zero_add _).trans (Nat.one_mul _)
  show m ((c : Thread nD τ).loc main_arg0) ((win0_0.blk (0 : Fin 1)).view.emb i) = _
  rw [e]

/-- The result's one block is the whole array, written back once. -/
theorem whole_o : (cfg0.win (1 : Fin 2)).WholeAt (0 : Fin 1) :=
  ⟨rfl, fun t _ => fin_N0 t, by decide⟩

/-- The result's array ends at the gathered columns. -/
theorem finalA_o (c : Dev nD) : finalA m ρ c (1 : Fin 2) = out m c :=
  (dats (F := F) m ρ 0 c).arrAt_eq_of_after_last (1 : Fin 2) (0 : Fin 1) whole_o (out m c) (fun _ => rfl)

set_option backward.proofsInPublic true in
/-- Four bands of rows tile the matrix. -/
theorem rows_tile : Layout.Tiles ⟨2, ![512, 2048]⟩ ⟨2, ![2048, 2048]⟩ 0 4 := by decide
set_option backward.proofsInPublic true in
/-- Four bands of columns tile the matrix. -/
theorem cols_tile : Layout.Tiles ⟨2, ![2048, 512]⟩ ⟨2, ![2048, 2048]⟩ 1 4 := by decide

/-- The equation: where every device's operand is its band of rows of one matrix, the gathered columns of device `c`
    are that matrix's band of columns. -/
theorem out_block (v : (⟨2, ![2048, 2048]⟩ : Shape).Idx → Elt F .f32)
    (h : ∀ d : Dev nD, m ((d : Thread nD τ).loc main_arg0) = Layout.block ⟨2, ![512, 2048]⟩ ⟨2, ![2048, 2048]⟩ 0 4 d v rows_tile)
    (c : Dev nD) : out m c = Layout.block ⟨2, ![2048, 512]⟩ ⟨2, ![2048, 2048]⟩ 1 4 c v cols_tile := by
  funext i
  have h0 : (i 0).val < 2048 := (i 0).isLt
  have h1 : (i 1).val < 512 := (i 1).isLt
  have hc := pos_lt c
  unfold out
  rw [xin_eq, h]
  simp only [Layout.block_apply]
  congr 1
  funext a
  apply Fin.ext
  match a with
  | ⟨0, _⟩ =>
    refine (Layout.idx_rows_val rows_tile _ _).1.trans (Eq.trans ?_ (Layout.idx_cols_val cols_tile c i).1.symm)
    show (i 0).val / 512 % 4 * 512 + (i 0).val % 512 % 512 = (i 0).val
    omega
  | ⟨1, _⟩ =>
    refine (Layout.idx_rows_val rows_tile _ _).2.trans (Eq.trans ?_ (Layout.idx_cols_val cols_tile c i).2.symm)
    show (512 * c.val + (i 1).val) % 2048 = c.val * 512 + (i 1).val
    omega

end Cert.KernelIdeal.AllToAll

end
-- ==== Proof.Reference.lean ====
/-
The reference, which returns its argument: it runs no operation, so every buffer ends as it began.
-/
module

public import proofs.«01_k».proof.Proof.Gen.ReferenceIdeal
public import Idealize.ShloMosaic.Lib.StableHlo.Run
public import Idealize.ShloMosaic.Lib.Quiescent

@[expose] public section

noncomputable section

namespace Cert.ReferenceIdeal.AllToAll

open Cert.ReferenceIdeal Cert.ReferenceIdeal.Gen
open Idealize.ShloMosaic Idealize.ShloMosaic.TcCoe Idealize.ShloMosaic.StableHlo Idealize.SL.Sem

variable {F : FTy → Type} [FloatOps F]

/-- No buffer of the reference is scoped. -/
theorem no_buffer : (Finset.univ.filter fun b : Ref sig .tc => b.isScoped) = ∅ := by decide
/-- The reference has no semaphore. -/
theorem no_sem : (Finset.univ.filter fun sm : SemLoc sig => sm.isScoped .tc) = ∅ := by decide

/-- The reference runs, its array ends as it was and every semaphore is at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems (by decide) r.2⟩)
    (run_seq no_buffer no_sem defs main (fun _ => []) (fun _ => rfl) (fun _ => trivial) m ρ)

end Cert.ReferenceIdeal.AllToAll

end
-- ==== Proof.lean ====
/-
The claims of the all-to-all, put together: the two programs' runs, what the result holds, and the reference's run.
-/
module

public import proofs.«01_k».proof.Defs
public import proofs.«01_k».proof.Proof.KernelRun
public import proofs.«01_k».proof.Proof.KernelIdealValue
public import proofs.«01_k».proof.Proof.Reference

@[expose] public section

noncomputable section

namespace Cert.Proof

open Idealize.ShloMosaic Idealize.SL.Sem

/-- The kernel runs, keeps its argument and ends with every semaphore at zero. -/
theorem frame_kernel : Cert.quiescent_Kernel := fun m ρ _ =>
  (θ_run Cert.Kernel.defs _ _).mono
    (fun _ h => ⟨fun c => (h.1 c (0 : Fin 2)).trans (Cert.Kernel.AllToAll.finalA_x m ρ c), h.2⟩)
    (Cert.Kernel.AllToAll.run_main (F := Bits) m ρ)

/-- So does the idealized kernel. -/
theorem frame_kernelIdeal : Cert.quiescent_KernelIdeal := fun m ρ _ =>
  (θ_run Cert.KernelIdeal.defs _ _).mono
    (fun _ h => ⟨fun c => (h.1 c (0 : Fin 2)).trans (Cert.KernelIdeal.AllToAll.finalA_x m ρ c), h.2⟩)
    (Cert.KernelIdeal.AllToAll.run_main (F := Ideal) m ρ)

/-- So does the reference. -/
theorem frame_reference : Cert.quiescent_ReferenceIdeal := fun m ρ _ =>
  Cert.ReferenceIdeal.AllToAll.run_main (F := Ideal) m ρ

/-- The idealized kernel is the kernel's own text. -/
theorem preserves : Cert.preserves_Kernel_KernelIdeal := trivial

/-- Every device ends with its band of columns of the matrix of which it was given a band of rows. -/
theorem algebraic : Cert.algebraic_KernelIdeal_ReferenceIdeal := fun m ρ m' ρ' _ hag =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c =>
        ⟨(h.1 c (1 : Fin 2)).trans ((Cert.KernelIdeal.AllToAll.finalA_o m ρ c).trans
            (Cert.KernelIdeal.AllToAll.out_block (F := Ideal) m _ hag c)),
          (h.1 c (0 : Fin 2)).trans (Cert.KernelIdeal.AllToAll.finalA_x m ρ c)⟩)
      (Cert.KernelIdeal.AllToAll.run_main (F := Ideal) m ρ),
    (θ_run Cert.ReferenceIdeal.defs _ _).mono (fun _ h => ⟨h.1 0, h.1 0⟩)
      (Cert.ReferenceIdeal.AllToAll.run_main (F := Ideal) m' ρ')⟩

/-- All the claims. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
